-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_within_exact_range [hKernelIdeal : Cert.KernelIdeal.Facts] [hReferenceIdeal : Cert.ReferenceIdeal.Facts] [hOn_within_exact_range : Cert.On_within_exact_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_within_exact_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_within_exact_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v14) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_within_exact_range : Cert.On_within_exact_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_within_exact_range (hKernelIdeal := hKernelIdeal) (hReferenceIdeal := hReferenceIdeal) (hOn_within_exact_range := hOn_within_exact_range)
-- ==== On_within_exact_range.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : IVec S4096x4096 32 := absi main_v0
  let main_v2 : FVec F S4096x4096 .f32 := sitofp .f32 main_v1
  let main_v3 : IVec S4096x2048 32 := (extsi 32 · natLt_8_32) main_arg1
  let main_v4 : IVec S4096x2048 32 := absi main_v3
  let main_v5 : FVec F S4096x2048 .f32 := sitofp .f32 main_v4
  let main_v6 : FVec F S4096x2048 .f32 := (fun l r => Host.dotGeneral dot_S4096x4096_S4096x2048_S4096x2048_1_0_0_1_n_n (some .fp32) l r) main_v2 main_v5
  let main_cst : FVec F S_ .f32 := constant S_ .f32 0x4B800000#32
  let main_v7 : FVec F S4096x2048 .f32 := broadcastInDim S4096x2048 ![] bcast_S_S4096x2048 main_cst
  let main_v8 : IVec S4096x2048 1 := cmpf .olt main_v6 main_v7
  main_v8
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S8x512x256 : Shape := ⟨3, ![8, 512, 256]⟩
abbrev S8 : Shape := ⟨1, ![8]⟩
abbrev S_ : Shape := ⟨0, ![]⟩
abbrev S512x2048 : Shape := ⟨2, ![512, 2048]⟩
abbrev S512x256 : Shape := ⟨2, ![512, 256]⟩
abbrev S1x512x256 : Shape := ⟨3, ![1, 512, 256]⟩

abbrev nBuf : Space → Nat
  | .hbm => 5
  | .vmem => 4
  | .smem => 2
  | _ => 0

abbrev bufTy : (tb : Table) → Fin (tcTables nBuf tb) → BufTy
  | .hbm, ⟨0, _⟩ => ⟨S512x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .i8⟩
  | .local _ .vmem, ⟨1, _⟩ => ⟨S4096x2048, .i8⟩
  | .local _ .vmem, ⟨2, _⟩ => ⟨S4096x256, .f32⟩
  | .local _ .vmem, ⟨3, _⟩ => ⟨S8x512x256, .f32⟩
  | .local _ .smem, ⟨0, _⟩ => ⟨S1, .f32⟩
  | .local _ .smem, ⟨1, _⟩ => ⟨S1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v148 : BitVec 32 := Scalar.muli v2 c512_i32
  let c0_i32_90 : BitVec 32 := 0#32
  ![v148.toNat, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c0_i32_92 : BitVec 32 := 0#32
  ![v2.toNat, 0, 0]
def k0_off3 (d0 : Dev nD) (c1_i32_93 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v152 : BitVec 32 := Scalar.addi v2 c1_i32_93
  let c8_i32_94 : BitVec 32 := 8#32
  let c0_i32_95 : BitVec 32 := 0#32
  let v153 : BitVec 1 := Scalar.cmpi .eq c8_i32_94 c0_i32_95
  let c1_i32_96 : BitVec 32 := 1#32
  let v154 : BitVec 32 := Scalar.select v153 c1_i32_96 c8_i32_94
  let v155 : BitVec 32 := Scalar.remsi v152 v154
  let c0_i32_98 : BitVec 32 := 0#32
  let v157 : BitVec 1 := Scalar.cmpi .slt v155 c0_i32_98
  let c0_i32_99 : BitVec 32 := 0#32
  let v158 : BitVec 1 := Scalar.cmpi .slt v154 c0_i32_99
  let v159 : BitVec 1 := Scalar.xori v157 v158
  let c0_i32_97 : BitVec 32 := 0#32
  let v156 : BitVec 1 := Scalar.cmpi .ne v155 c0_i32_97
  let v160 : BitVec 1 := Scalar.andi v159 v156
  let v161 : BitVec 32 := Scalar.addi v155 v154
  let v162 : BitVec 32 := Scalar.select v160 v161 v155
  let c0_i32_105 : BitVec 32 := 0#32
  let c0_i32_106 : BitVec 32 := 0#32
  ![v162.toNat, 0, 0]
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v152 : BitVec 32 := Scalar.addi v2 c1_i32_93
  let c8_i32_94 : BitVec 32 := 8#32
  let c0_i32_95 : BitVec 32 := 0#32
  let v153 : BitVec 1 := Scalar.cmpi .eq c8_i32_94 c0_i32_95
  let c1_i32_96 : BitVec 32 := 1#32
  let v154 : BitVec 32 := Scalar.select v153 c1_i32_96 c8_i32_94
  let v155 : BitVec 32 := Scalar.remsi v152 v154
  let c0_i32_98 : BitVec 32 := 0#32
  let v157 : BitVec 1 := Scalar.cmpi .slt v155 c0_i32_98
  let c0_i32_99 : BitVec 32 := 0#32
  let v158 : BitVec 1 := Scalar.cmpi .slt v154 c0_i32_99
  let v159 : BitVec 1 := Scalar.xori v157 v158
  let c0_i32_97 : BitVec 32 := 0#32
  let v156 : BitVec 1 := Scalar.cmpi .ne v155 c0_i32_97
  let v160 : BitVec 1 := Scalar.andi v159 v156
  let v161 : BitVec 32 := Scalar.addi v155 v154
  let v162 : BitVec 32 := Scalar.select v160 v161 v155
  let c1_i32_102 : BitVec 32 := 1#32
  let v163 : BitVec 32 := Scalar.muli v162 c1_i32_102
  let v164 : BitVec 32 := Scalar.addi c0_i32_103 v163
  v164.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_107 : BitVec 32 := 2#32
  let v172 : BitVec 32 := Scalar.addi v2 c2_i32_107
  let c8_i32_108 : BitVec 32 := 8#32
  let c0_i32_109 : BitVec 32 := 0#32
  let v173 : BitVec 1 := Scalar.cmpi .eq c8_i32_108 c0_i32_109
  let c1_i32_110 : BitVec 32 := 1#32
  let v174 : BitVec 32 := Scalar.select v173 c1_i32_110 c8_i32_108
  let v175 : BitVec 32 := Scalar.remsi v172 v174
  let c0_i32_112 : BitVec 32 := 0#32
  let v177 : BitVec 1 := Scalar.cmpi .slt v175 c0_i32_112
  let c0_i32_113 : BitVec 32 := 0#32
  let v178 : BitVec 1 := Scalar.cmpi .slt v174 c0_i32_113
  let v179 : BitVec 1 := Scalar.xori v177 v178
  let c0_i32_111 : BitVec 32 := 0#32
  let v176 : BitVec 1 := Scalar.cmpi .ne v175 c0_i32_111
  let v180 : BitVec 1 := Scalar.andi v179 v176
  let v181 : BitVec 32 := Scalar.addi v175 v174
  let v182 : BitVec 32 := Scalar.select v180 v181 v175
  let c1_i32_116 : BitVec 32 := 1#32
  let v183 : BitVec 32 := Scalar.muli v182 c1_i32_116
  let v184 : BitVec 32 := Scalar.addi c0_i32_117 v183
  v184.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_121 : BitVec 32 := 3#32
  let v192 : BitVec 32 := Scalar.addi v2 c3_i32_121
  let c8_i32_122 : BitVec 32 := 8#32
  let c0_i32_123 : BitVec 32 := 0#32
  let v193 : BitVec 1 := Scalar.cmpi .eq c8_i32_122 c0_i32_123
  let c1_i32_124 : BitVec 32 := 1#32
  let v194 : BitVec 32 := Scalar.select v193 c1_i32_124 c8_i32_122
  let v195 : BitVec 32 := Scalar.remsi v192 v194
  let c0_i32_126 : BitVec 32 := 0#32
  let v197 : BitVec 1 := Scalar.cmpi .slt v195 c0_i32_126
  let c0_i32_127 : BitVec 32 := 0#32
  let v198 : BitVec 1 := Scalar.cmpi .slt v194 c0_i32_127
  let v199 : BitVec 1 := Scalar.xori v197 v198
  let c0_i32_125 : BitVec 32 := 0#32
  let v196 : BitVec 1 := Scalar.cmpi .ne v195 c0_i32_125
  let v200 : BitVec 1 := Scalar.andi v199 v196
  let v201 : BitVec 32 := Scalar.addi v195 v194
  let v202 : BitVec 32 := Scalar.select v200 v201 v195
  let c1_i32_130 : BitVec 32 := 1#32
  let v203 : BitVec 32 := Scalar.muli v202 c1_i32_130
  let v204 : BitVec 32 := Scalar.addi c0_i32_131 v203
  v204.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_135 : BitVec 32 := 4#32
  let v212 : BitVec 32 := Scalar.addi v2 c4_i32_135
  let c8_i32_136 : BitVec 32 := 8#32
  let c0_i32_137 : BitVec 32 := 0#32
  let v213 : BitVec 1 := Scalar.cmpi .eq c8_i32_136 c0_i32_137
  let c1_i32_138 : BitVec 32 := 1#32
  let v214 : BitVec 32 := Scalar.select v213 c1_i32_138 c8_i32_136
  let v215 : BitVec 32 := Scalar.remsi v212 v214
  let c0_i32_140 : BitVec 32 := 0#32
  let v217 : BitVec 1 := Scalar.cmpi .slt v215 c0_i32_140
  let c0_i32_141 : BitVec 32 := 0#32
  let v218 : BitVec 1 := Scalar.cmpi .slt v214 c0_i32_141
  let v219 : BitVec 1 := Scalar.xori v217 v218
  let c0_i32_139 : BitVec 32 := 0#32
  let v216 : BitVec 1 := Scalar.cmpi .ne v215 c0_i32_139
  let v220 : BitVec 1 := Scalar.andi v219 v216
  let v221 : BitVec 32 := Scalar.addi v215 v214
  let v222 : BitVec 32 := Scalar.select v220 v221 v215
  let c1_i32_144 : BitVec 32 := 1#32
  let v223 : BitVec 32 := Scalar.muli v222 c1_i32_144
  let v224 : BitVec 32 := Scalar.addi c0_i32_145 v223
  v224.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_149 : BitVec 32 := 5#32
  let v232 : BitVec 32 := Scalar.addi v2 c5_i32_149
  let c8_i32_150 : BitVec 32 := 8#32
  let c0_i32_151 : BitVec 32 := 0#32
  let v233 : BitVec 1 := Scalar.cmpi .eq c8_i32_150 c0_i32_151
  let c1_i32_152 : BitVec 32 := 1#32
  let v234 : BitVec 32 := Scalar.select v233 c1_i32_152 c8_i32_150
  let v235 : BitVec 32 := Scalar.remsi v232 v234
  let c0_i32_154 : BitVec 32 := 0#32
  let v237 : BitVec 1 := Scalar.cmpi .slt v235 c0_i32_154
  let c0_i32_155 : BitVec 32 := 0#32
  let v238 : BitVec 1 := Scalar.cmpi .slt v234 c0_i32_155
  let v239 : BitVec 1 := Scalar.xori v237 v238
  let c0_i32_153 : BitVec 32 := 0#32
  let v236 : BitVec 1 := Scalar.cmpi .ne v235 c0_i32_153
  let v240 : BitVec 1 := Scalar.andi v239 v236
  let v241 : BitVec 32 := Scalar.addi v235 v234
  let v242 : BitVec 32 := Scalar.select v240 v241 v235
  let c1_i32_158 : BitVec 32 := 1#32
  let v243 : BitVec 32 := Scalar.muli v242 c1_i32_158
  let v244 : BitVec 32 := Scalar.addi c0_i32_159 v243
  v244.toNat
def k0_dev13 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v252 : BitVec 32 := Scalar.addi v2 c6_i32_163
  let c8_i32_164 : BitVec 32 := 8#32
  let c0_i32_165 : BitVec 32 := 0#32
  let v253 : BitVec 1 := Scalar.cmpi .eq c8_i32_164 c0_i32_165
  let c1_i32_166 : BitVec 32 := 1#32
  let v254 : BitVec 32 := Scalar.select v253 c1_i32_166 c8_i32_164
  let v255 : BitVec 32 := Scalar.remsi v252 v254
  let c0_i32_168 : BitVec 32 := 0#32
  let v257 : BitVec 1 := Scalar.cmpi .slt v255 c0_i32_168
  let c0_i32_169 : BitVec 32 := 0#32
  let v258 : BitVec 1 := Scalar.cmpi .slt v254 c0_i32_169
  let v259 : BitVec 1 := Scalar.xori v257 v258
  let c0_i32_167 : BitVec 32 := 0#32
  let v256 : BitVec 1 := Scalar.cmpi .ne v255 c0_i32_167
  let v260 : BitVec 1 := Scalar.andi v259 v256
  let v261 : BitVec 32 := Scalar.addi v255 v254
  let v262 : BitVec 32 := Scalar.select v260 v261 v255
  let c1_i32_172 : BitVec 32 := 1#32
  let v263 : BitVec 32 := Scalar.muli v262 c1_i32_172
  let v264 : BitVec 32 := Scalar.addi c0_i32_173 v263
  v264.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_177 : BitVec 32 := 7#32
  let v272 : BitVec 32 := Scalar.addi v2 c7_i32_177
  let c8_i32_178 : BitVec 32 := 8#32
  let c0_i32_179 : BitVec 32 := 0#32
  let v273 : BitVec 1 := Scalar.cmpi .eq c8_i32_178 c0_i32_179
  let c1_i32_180 : BitVec 32 := 1#32
  let v274 : BitVec 32 := Scalar.select v273 c1_i32_180 c8_i32_178
  let v275 : BitVec 32 := Scalar.remsi v272 v274
  let c0_i32_182 : BitVec 32 := 0#32
  let v277 : BitVec 1 := Scalar.cmpi .slt v275 c0_i32_182
  let c0_i32_183 : BitVec 32 := 0#32
  let v278 : BitVec 1 := Scalar.cmpi .slt v274 c0_i32_183
  let v279 : BitVec 1 := Scalar.xori v277 v278
  let c0_i32_181 : BitVec 32 := 0#32
  let v276 : BitVec 1 := Scalar.cmpi .ne v275 c0_i32_181
  let v280 : BitVec 1 := Scalar.andi v279 v276
  let v281 : BitVec 32 := Scalar.addi v275 v274
  let v282 : BitVec 32 := Scalar.select v280 v281 v275
  let c1_i32_186 : BitVec 32 := 1#32
  let v283 : BitVec 32 := Scalar.muli v282 c1_i32_186
  let v284 : BitVec 32 := Scalar.addi c0_i32_187 v283
  v284.toNat
def k0_off4 (d0 : Dev nD) (c1_i32_236 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v330 : BitVec 32 := Scalar.subi v2 c1_i32_236
  let c8_i32_237 : BitVec 32 := 8#32
  let c0_i32_238 : BitVec 32 := 0#32
  let v331 : BitVec 1 := Scalar.cmpi .eq c8_i32_237 c0_i32_238
  let c1_i32_239 : BitVec 32 := 1#32
  let v332 : BitVec 32 := Scalar.select v331 c1_i32_239 c8_i32_237
  let v333 : BitVec 32 := Scalar.remsi v330 v332
  let c0_i32_241 : BitVec 32 := 0#32
  let v335 : BitVec 1 := Scalar.cmpi .slt v333 c0_i32_241
  let c0_i32_242 : BitVec 32 := 0#32
  let v336 : BitVec 1 := Scalar.cmpi .slt v332 c0_i32_242
  let v337 : BitVec 1 := Scalar.xori v335 v336
  let c0_i32_240 : BitVec 32 := 0#32
  let v334 : BitVec 1 := Scalar.cmpi .ne v333 c0_i32_240
  let v338 : BitVec 1 := Scalar.andi v337 v334
  let v339 : BitVec 32 := Scalar.addi v333 v332
  let v340 : BitVec 32 := Scalar.select v338 v339 v333
  let c512_i32_243 : BitVec 32 := 512#32
  let v341 : BitVec 32 := Scalar.muli v340 c512_i32_243
  let c0_i32_249 : BitVec 32 := 0#32
  ![v341.toNat, 0]
abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Product.lean ====
/-
The sums behind one element of the product: the contraction of a row with a column of 8-bit words, as the kernel's
integer product, the reference's product of floats and the mask's product of magnitudes each spell it.
-/
module

public import Idealize.ShloMosaic.Lib.IntMxu
public import Idealize.ShloMosaic.Lib.ValueIdx
public import Idealize.ShloMosaic.Lib.MatmulPlain
public import Idealize.ShloMosaic.Lib.IdealHost

@[expose] public section

noncomputable section

namespace Cert.Exchange

open Idealize.ShloMosaic Idealize.ShloMosaic.ValueIdx
open scoped BigOperators

/-! ## A contraction, by the position along the row and the column -/

/-- A sum over the contraction's positions at (r, c) runs over the row's elements and the column's, one by one. -/
theorem sum_plain {M K N : ℕ} {A : Type*} [AddCommMonoid A] (r : Fin M) (c : Fin N)
    (f : (⟨2, ![M, K]⟩ : Shape).Idx → (⟨2, ![K, N]⟩ : Shape).Idx → A) :
    (∑ k : (DotDims.plain M K N).contr.Idx, f ((DotDims.plain M K N).lhsIdx (ix2 r c) k) ((DotDims.plain M K N).rhsIdx (ix2 r c) k))
      = ∑ k : Fin K, f (ix2 r k) (ix2 k c) := by
  rw [← Equiv.sum_comp (DotDims.plainContr M K N).symm]
  refine Finset.sum_congr rfl fun k _ => ?_
  have hk := contrEquiv1_symm_val _ K (DotDims.plain_contr_rank M K N) (DotDims.plain_contr_size M K N) k
  congr 1
  · funext a
    match a with
    | ⟨0, _⟩ => rfl
    | ⟨1, _⟩ => exact Fin.ext hk
  · funext a
    match a with
    | ⟨0, _⟩ => exact Fin.ext hk
    | ⟨1, _⟩ => rfl

/-- The integer product at (r, c), and the total of its products' magnitudes. -/
theorem dotI8_plain {M K N : ℕ} (x : IVec ⟨2, ![M, K]⟩ 8) (w : IVec ⟨2, ![K, N]⟩ 8) (r : Fin M) (c : Fin N) :
    dotI8 (DotDims.plain M K N) x w (ix2 r c) = ∑ k : Fin K, (x (ix2 r k)).toInt * (w (ix2 k c)).toInt :=
  sum_plain r c fun i j => (x i).toInt * (w j).toInt
theorem absDotI8_plain {M K N : ℕ} (x : IVec ⟨2, ![M, K]⟩ 8) (w : IVec ⟨2, ![K, N]⟩ 8) (r : Fin M) (c : Fin N) :
    absDotI8 (DotDims.plain M K N) x w (ix2 r c) = ∑ k : Fin K, ((x (ix2 r k)).toInt * (w (ix2 k c)).toInt).natAbs :=
  sum_plain r c fun i j => ((x i).toInt * (w j).toInt).natAbs

/-- The host's product of floats at (r, c). -/
theorem dotGeneral_plain {M K N : ℕ} {φ₁ φ₂ : FTy} (prec : Option ContractPrecision) (x : FVec Ideal ⟨2, ![M, K]⟩ φ₁)
    (w : FVec Ideal ⟨2, ![K, N]⟩ φ₂) (r : Fin M) (c : Fin N) :
    Host.dotGeneral (DotDims.plain M K N) prec x w (ix2 r c) = ∑ k : Fin K, (x (ix2 r k) : EReal) * (w (ix2 k c) : EReal) := by
  show FloatOps.dotGeneral _ prec _ x w (ix2 r c) = _
  rw [Ideal.dotGeneral_apply]
  exact sum_plain r c fun i j => (x i : EReal) * (w j : EReal)

/-! ## Integers among the extended reals -/

/-- A sum of products of integers, taken among the extended reals, is the integers' own. -/
theorem sum_int {K : ℕ} (a b : Fin K → ℤ) :
    (∑ k, (((a k : ℝ) : EReal) * ((b k : ℝ) : EReal))) = (((∑ k, a k * b k : ℤ) : ℝ) : EReal) := by
  have h : ∀ s : Finset (Fin K), (∑ k ∈ s, (((a k : ℝ) : EReal) * ((b k : ℝ) : EReal))) = (((∑ k ∈ s, a k * b k : ℤ) : ℝ) : EReal) := by
    intro s
    induction s using Finset.cons_induction with
    | empty => simp
    | cons k s hk ih =>
      rw [Finset.sum_cons, Finset.sum_cons, ih, ← EReal.coe_mul, ← EReal.coe_add]
      push_cast; rfl
  exact h Finset.univ

/-- An 8-bit word widened is the same integer, -/
theorem toInt_widened (b : BitVec 8) : (b.signExtend 32).toInt = b.toInt := by
  revert b; decide +kernel
/-- and the widened word's magnitude is the integer's. -/
theorem toInt_magnitude (b : BitVec 8) : (IntOp.absi (b.signExtend 32)).toInt = (b.toInt.natAbs : ℤ) := by
  revert b; decide +kernel

/-- The word of 2²⁴. -/
theorem ofBits_two_pow_24 : Ideal.ofBits .f32 0x4B800000#32 = (((2 ^ 24 : ℤ) : ℝ) : EReal) := by
  simp [Ideal.ofBits, Ideal.ieee, -EReal.coe_mul]; norm_num

end Cert.Exchange

end
-- ==== Proof.Elements.lean ====
/-
One element of the result, as the kernel, the reference and the mask compute it among the extended reals: each is a
function of one row of the left operand, one column of the right operand and the two scales.
-/
module

public import proofs.«01_k».proof.On_within_exact_range
public import proofs.«01_k».proof.Proof.Product
public import proofs.«01_k».proof.Proof.Gen.KernelIdeal.Skeleton
public import proofs.«01_k».proof.Proof.Gen.ReferenceIdeal.Run
public import Idealize.ShloMosaic.Lib.Pipeline.Value
public import proofs.«01_k».proof.Proof.Gen.On_within_exact_range

@[expose] public section

set_option maxRecDepth 16384

noncomputable section

namespace Cert.Exchange

open Idealize.ShloMosaic Idealize.ShloMosaic.ValueIdx
open scoped BigOperators

/-- A value over one plus the exponential of its negative, clipped to ±60 before the exponential. -/
def activated (y : EReal) : EReal :=
  Ideal.div y (1 + Ideal.exp (-(min (Ideal.ofBits .f32 0x42700000#32) (max (Ideal.ofBits .f32 0xC2700000#32) y))))

/-- One element of the result: the integer product of a row with a column, scaled, activated. -/
def element {K : ℕ} (row col : Fin K → BitVec 8) (sx sw : EReal) : EReal :=
  activated ((((∑ k, (row k).toInt * (col k).toInt : ℤ) : ℝ) : EReal) * (sx * sw))

/-- The total of the magnitudes of a row's products with a column. -/
def magnitude {K : ℕ} (row col : Fin K → BitVec 8) : ℕ := ∑ k, ((row k).toInt * (col k).toInt).natAbs

/-! ## The kernel's -/

section Kernel
open Cert.KernelIdeal Cert.KernelIdeal.Gen

theorem dot_kernel : dot_S512x4096_S4096x2048_S512x2048_1_0_0_1_n_n = DotDims.plain 512 4096 2048 := rfl

/-- Where the products' magnitudes total below 2²⁴, the kernel's product word is the integer product; -/
theorem word_kernel (x : IVec S512x4096 8) (w : IVec S4096x2048 8) (r : Fin 512) (c : Fin 2048)
    (h : magnitude (fun k : Fin 4096 => x (ix2 r k)) (fun k => w (ix2 k c)) < 2 ^ 24) :
    (matmulI8 IntMxuNumerics.v7x dot_S512x4096_S4096x2048_S512x2048_1_0_0_1_n_n x w (constantI S512x2048 32 0#32) (ix2 r c)).toInt
      = ∑ k : Fin 4096, (x (ix2 r k)).toInt * (w (ix2 k c)).toInt := by
  rw [dot_kernel, ← dotI8_plain x w r c]
  refine matmulI8_toInt _ _ _ _ _ _ rfl ?_
  rw [absDotI8_plain]
  exact Nat.le_pred_of_lt h

/-- there, the kernel's element is the integer product scaled and activated. -/
theorem element_kernel (x : IVec S512x4096 8) (w : IVec S4096x2048 8) (sx sw : EReal) (r : Fin 512) (c : Fin 2048)
    (h : magnitude (fun k : Fin 4096 => x (ix2 r k)) (fun k => w (ix2 k c)) < 2 ^ 24) :
    k0_pay1 (F := Ideal) x w sx sw (ix2 r c) = element (fun k : Fin 4096 => x (ix2 r k)) (fun k => w (ix2 k c)) sx sw := by
  unfold k0_pay1 element activated
  rw [← word_kernel x w r c h, shapeCast_self, shapeCast_self]
  simp only [divf_apply, addf_apply, subf_apply, mulf_apply, minimumf_apply, maximumf_apply, sitofp_apply]
  show Ideal.div _ (Ideal.ofBits .f32 0x3F800000#32 + Ideal.exp (Ideal.ofBits .f32 0x00000000#32 - _)) = _
  rw [Ideal.ofBits_one_f32, Ideal.ofBits_zero_f32, zero_sub]
  rfl

end Kernel

/-! ## The reference's -/

section Reference
open Cert.ReferenceIdeal Cert.ReferenceIdeal.Gen

theorem dot_reference : dot_S4096x4096_S4096x2048_S4096x2048_1_0_0_1_n_n = DotDims.plain 4096 4096 2048 := rfl

/-- The reference's scaled product, -/
def scaled (x : IVec S4096x4096 8) (w : IVec S4096x2048 8) (sx sw : FVec Ideal S1 .f32) : FVec Ideal S4096x2048 .f32 :=
  mulf (Host.dotGeneral dot_S4096x4096_S4096x2048_S4096x2048_1_0_0_1_n_n (some .fp32) (sitofp .f32 (extsi 32 x natLt_8_32)) (sitofp .f32 (extsi 32 w natLt_8_32)))
    (broadcastInDim S4096x2048 ![0, 1] bcast_S1x1_S4096x2048_0_1 (broadcastInDim S1x1 ![1] bcast_S1_S1x1_1 (mulf sx sw)))

/-- and what it returns. -/
def returned (x : IVec S4096x4096 8) (w : IVec S4096x2048 8) (sx sw : FVec Ideal S1 .f32) : FVec Ideal S4096x2048 .f32 :=
  Host.divf (scaled x w sx sw) (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) (scaled x w sx sw))))))

/-- The reference's scaled product at (r, c): the integer product by the scales' product. -/
theorem scaled_apply (x : IVec S4096x4096 8) (w : IVec S4096x2048 8) (sx sw : FVec Ideal S1 .f32) (r : Fin 4096) (c : Fin 2048) :
    scaled x w sx sw (ix2 r c)
      = (((∑ k : Fin 4096, (x (ix2 r k)).toInt * (w (ix2 k c)).toInt : ℤ) : ℝ) : EReal) * (sx (ix1 (0 : Fin 1)) * sw (ix1 (0 : Fin 1))) := by
  unfold scaled
  rw [mulf_apply, dot_reference, dotGeneral_plain, ← sum_int]
  refine congrArg₂ (· * ·) (Finset.sum_congr rfl fun k _ => ?_) ?_
  · show (((((x (ix2 r k)).signExtend 32).toInt : ℝ) : EReal) * ((((w (ix2 k c)).signExtend 32).toInt : ℝ) : EReal)) = _
    rw [toInt_widened, toInt_widened]
  · have hi (i : S1.Idx) : i = ix1 (0 : Fin 1) := (eq_ix1 i).trans (congrArg ix1 (Subsingleton.elim (α := Fin 1) _ _))
    refine Eq.trans (?_ : _ = mulf sx sw (ix1 (0 : Fin 1))) (mulf_apply _ _ _)
    exact congrArg (mulf sx sw) (hi _)

/-- The reference's element is the integer product scaled and activated. -/
theorem element_reference (x : IVec S4096x4096 8) (w : IVec S4096x2048 8) (sx sw : FVec Ideal S1 .f32) (r : Fin 4096) (c : Fin 2048) :
    returned x w sx sw (ix2 r c)
      = element (fun k : Fin 4096 => x (ix2 r k)) (fun k => w (ix2 k c)) (sx (ix1 (0 : Fin 1))) (sw (ix1 (0 : Fin 1))) := by
  unfold element
  rw [← scaled_apply]
  unfold returned activated
  generalize scaled x w sx sw = y
  show Ideal.div _ (Ideal.ofBits .f32 0x3F800000#32 + Ideal.exp (-(min _ (max _ _)))) = _
  rw [Ideal.ofBits_one_f32]
  rfl

end Reference

/-! ## The mask's -/

section Mask
open Cert.On_within_exact_range Cert.On_within_exact_range.Gen

theorem dot_mask : dot_S4096x4096_S4096x2048_S4096x2048_1_0_0_1_n_n = DotDims.plain 4096 4096 2048 := rfl

/-- The float comparison "less than" sets its bit exactly where the order says so. -/
theorem olt_iff (a b : EReal) : Iff (FloatOps.cmpf (F := Ideal) (φ := .f32) .olt a b = 1#1) (a < b) := by
  show Iff (BitVec.ofBool (decide (a < b)) = 1#1) (a < b)
  by_cases h : a < b <;> simp [h]

/-- The mask selects (r, c) exactly where the products' magnitudes total below 2²⁴. -/
theorem mask_iff (x : IVec S4096x4096 8) (w : IVec S4096x2048 8) (sx sw : FVec Ideal S1 .f32) (r : Fin 4096) (c : Fin 2048) :
    Iff (fn x w sx sw (ix2 r c) = 1#1) (magnitude (fun k : Fin 4096 => x (ix2 r k)) (fun k => w (ix2 k c)) < 2 ^ 24) := by
  have hd : Host.dotGeneral dot_S4096x4096_S4096x2048_S4096x2048_1_0_0_1_n_n (some .fp32)
      (sitofp .f32 (absi (extsi 32 x Facts.natLt_8_32)) : FVec Ideal S4096x4096 .f32)
      (sitofp .f32 (absi (extsi 32 w Facts.natLt_8_32)) : FVec Ideal S4096x2048 .f32) (ix2 r c)
      = (((magnitude (fun k : Fin 4096 => x (ix2 r k)) (fun k => w (ix2 k c)) : ℤ) : ℝ) : EReal) := by
    rw [dot_mask, dotGeneral_plain]
    have hs : ((magnitude (fun k : Fin 4096 => x (ix2 r k)) (fun k => w (ix2 k c)) : ℕ) : ℤ)
        = ∑ k : Fin 4096, (((x (ix2 r k)).toInt.natAbs : ℤ) * ((w (ix2 k c)).toInt.natAbs : ℤ)) := by
      unfold magnitude
      rw [Nat.cast_sum]
      exact Finset.sum_congr rfl fun k _ => by rw [Int.natAbs_mul, Nat.cast_mul]
    rw [hs, ← sum_int]
    refine Finset.sum_congr rfl fun k _ => ?_
    show ((((IntOp.absi ((x (ix2 r k)).signExtend 32)).toInt : ℝ) : EReal) * (((IntOp.absi ((w (ix2 k c)).signExtend 32)).toInt : ℝ) : EReal)) = _
    rw [toInt_magnitude, toInt_magnitude]
  have hf : fn x w sx sw = cmpf .olt (Host.dotGeneral dot_S4096x4096_S4096x2048_S4096x2048_1_0_0_1_n_n (some .fp32)
      (sitofp .f32 (absi (extsi 32 x Facts.natLt_8_32)) : FVec Ideal S4096x4096 .f32)
      (sitofp .f32 (absi (extsi 32 w Facts.natLt_8_32)) : FVec Ideal S4096x2048 .f32))
      (broadcastInDim S4096x2048 ![] Facts.bcast_S_S4096x2048 (constant S_ .f32 0x4B800000#32)) := rfl
  have hc : (broadcastInDim S4096x2048 ![] Facts.bcast_S_S4096x2048 (constant (F := Ideal) S_ .f32 0x4B800000#32)) (ix2 r c)
      = Ideal.ofBits .f32 0x4B800000#32 := rfl
  rw [hf, cmpf_apply, hc]
  rw [hd, ofBits_two_pow_24]
  refine (olt_iff _ _).trans ?_
  rw [EReal.coe_lt_coe_iff, Int.cast_lt]
  exact Int.ofNat_lt (m := 2 ^ 24)

end Mask

end Cert.Exchange

end
-- ==== Proof.Places.lean ====
/-
The eight devices of the exchange, the buffers' parts and the semaphores it names.

Device `c` sends to the seven devices `far c r` (`r = 0 … 6`: the device `r + 1` places further round) and
receives from the seven devices `near c r` (the device `r + 1` places back).  The product held in scratch is
eight column chunks, one per destination; the result is eight row blocks, one per source.
-/
module

public import proofs.«01_k».proof.Proof.Gen.KernelIdeal
public import proofs.«01_k».proof.Proof.Gen.KernelIdeal.Skeleton
public import Idealize.ShloMosaic.Lib.ViewIndex
public import Idealize.ShloMosaic.Lib.ValueIdx
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx

/-! ## The devices -/

set_option backward.proofsInPublic true in
/-- The device `r + 1` places further round than `c`. -/
def far (c : Dev nD) (r : Fin 7) : Dev nD := ⟨(c.val + 1 + r.val) % 8, Nat.mod_lt _ (by decide)⟩

set_option backward.proofsInPublic true in
/-- The device `r + 1` places back from `c`. -/
def near (c : Dev nD) (r : Fin 7) : Dev nD := ⟨(c.val + 7 - r.val) % 8, Nat.mod_lt _ (by decide)⟩

theorem near_far : ∀ (c : Dev nD) (r : Fin 7), near (far c r) r = c := by decide
theorem far_near : ∀ (c : Dev nD) (r : Fin 7), far (near c r) r = c := by decide
/-- Going `r + 1` places back is going `7 - r` places on. -/
theorem near_rev : ∀ (c : Dev nD) (r : Fin 7), near c (Fin.rev r) = far c r := by decide
theorem far_ne : ∀ (c : Dev nD) (r : Fin 7), far c r ≠ c := by decide
theorem far_inj : ∀ (c : Dev nD) (r r' : Fin 7), far c r = far c r' → r = r' := by decide

/-- The step of `r + 1` places round the ring of devices. -/
def turn (r : Fin 7) : Dev nD ≃ Dev nD := ⟨fun c => far c r, fun c => near c r, fun c => near_far c r, fun c => far_near c r⟩

/-- A device and every device it sends to are all the devices. -/
def fromDev (c : Dev nD) : Unit ⊕ Fin 7 → Dev nD := Sum.elim (fun _ => c) (far c)
/-- A device and every device it receives from are all the devices. -/
def intoDev (c : Dev nD) : Unit ⊕ Fin 7 → Dev nD := Sum.elim (fun _ => c) (near c)
theorem fromDev_bijective : ∀ c : Dev nD, Function.Bijective (fromDev c) := by decide
theorem intoDev_bijective : ∀ c : Dev nD, Function.Bijective (intoDev c) := by decide

/-- The kernel's words for the devices it signals and sends to. -/
theorem dev1_eq : ∀ c : Dev nD, (⟨k0_dev1 c, k0_dev1_lt c⟩ : Dev nD) = far c 0 := by decide +kernel
theorem dev2_eq : ∀ c : Dev nD, (⟨k0_dev2 c, k0_dev2_lt c⟩ : Dev nD) = far c 1 := by decide +kernel
theorem dev3_eq : ∀ c : Dev nD, (⟨k0_dev3 c, k0_dev3_lt c⟩ : Dev nD) = far c 2 := by decide +kernel
theorem dev4_eq : ∀ c : Dev nD, (⟨k0_dev4 c, k0_dev4_lt c⟩ : Dev nD) = far c 3 := by decide +kernel
theorem dev5_eq : ∀ c : Dev nD, (⟨k0_dev5 c, k0_dev5_lt c⟩ : Dev nD) = far c 4 := by decide +kernel
theorem dev6_eq : ∀ c : Dev nD, (⟨k0_dev6 c, k0_dev6_lt c⟩ : Dev nD) = far c 5 := by decide +kernel
theorem dev7_eq : ∀ c : Dev nD, (⟨k0_dev7 c, k0_dev7_lt c⟩ : Dev nD) = far c 6 := by decide +kernel
theorem dev8_eq : ∀ c : Dev nD, (⟨k0_dev8 c, k0_dev8_lt c⟩ : Dev nD) = far c 0 := by decide +kernel
theorem dev9_eq : ∀ c : Dev nD, (⟨k0_dev9 c, k0_dev9_lt c⟩ : Dev nD) = far c 1 := by decide +kernel
theorem dev10_eq : ∀ c : Dev nD, (⟨k0_dev10 c, k0_dev10_lt c⟩ : Dev nD) = far c 2 := by decide +kernel
theorem dev11_eq : ∀ c : Dev nD, (⟨k0_dev11 c, k0_dev11_lt c⟩ : Dev nD) = far c 3 := by decide +kernel
theorem dev12_eq : ∀ c : Dev nD, (⟨k0_dev12 c, k0_dev12_lt c⟩ : Dev nD) = far c 4 := by decide +kernel
theorem dev13_eq : ∀ c : Dev nD, (⟨k0_dev13 c, k0_dev13_lt c⟩ : Dev nD) = far c 5 := by decide +kernel
theorem dev14_eq : ∀ c : Dev nD, (⟨k0_dev14 c, k0_dev14_lt c⟩ : Dev nD) = far c 6 := by decide +kernel

/-! ## The parts of the scratch and of the result -/

theorem chunk_inb (j : Dev nD) (a : Fin 3) : (![j.val, 0, 0] : Fin 3 → Nat) a + S1x512x256.size a ≤ S8x512x256.size a := by
  revert j a; decide +kernel
theorem rows_inb (b : Dev nD) (a : Fin 2) : (![512 * b.val, 0] : Fin 2 → Nat) a + S512x256.size a ≤ S4096x256.size a := by
  revert b a; decide +kernel

/-- The rectangle of chunk `j` of the scratch. -/
abbrev chunkR (j : Dev nD) : Rect S8x512x256 := Rect.unit (s := S8x512x256) ![j.val, 0, 0] S1x512x256.size (chunk_inb j)
/-- The rectangle of row block `b` of the result. -/
abbrev rowsR (b : Dev nD) : Rect S4096x256 := Rect.unit (s := S4096x256) ![512 * b.val, 0] S512x256.size (rows_inb b)

/-- The scratch and the result's staging buffer, whole. -/
abbrev scrM : Memref sig .tc .vmem S8x512x256 .f32 := Memref.whole cc0_scratch0
abbrev outM : Memref sig .tc .vmem S4096x256 .f32 := Memref.whole cc0_stg4_0

/-- Chunk `j` of the scratch, as a plane of its own; -/
abbrev chunkM (j : Dev nD) : Memref sig .tc .vmem S512x256 .f32 :=
  (scrM.slice (chunkR j) (fun _ => rfl)).squeeze S512x256 squeezes_S1x512x256_S512x256
/-- row block `b` of the result. -/
abbrev rowsM (b : Dev nD) : Memref sig .tc .vmem S512x256 .f32 := outM.slice (rowsR b) (fun _ => rfl)

/-- The scratch chunk at an offset known in closed form is that chunk; -/
theorem chunkM_of (j : Dev nD) {off : Fin 3 → Nat} (h : off = ![j.val, 0, 0]) (p : ∀ a, off a + S1x512x256.size a ≤ S8x512x256.size a) :
    (scrM.slice (Rect.unit (s := S8x512x256) off S1x512x256.size p) (fun _ => rfl)).squeeze S512x256 squeezes_S1x512x256_S512x256 = chunkM j := by
  subst h; rfl
/-- the result's rows at an offset known in closed form are that row block. -/
theorem rowsM_of (b : Dev nD) {off : Fin 2 → Nat} (h : off = ![512 * b.val, 0]) (p : ∀ a, off a + S512x256.size a ≤ S4096x256.size a) :
    outM.slice (Rect.unit (s := S4096x256) off S512x256.size p) (fun _ => rfl) = rowsM b := by
  subst h; rfl

/-- The chunk sent `r + 1` places on is the receiver's; the rows that come from `r + 1` places back are the sender's. -/
theorem off3_eq : ∀ (c : Dev nD) (r : Fin 7), k0_off3 c (BitVec.ofNat 32 (1 + r.val)) = ![(far c r).val, 0, 0] := by decide +kernel
theorem off4_eq : ∀ (c : Dev nD) (r : Fin 7), k0_off4 c (BitVec.ofNat 32 (1 + r.val)) = ![512 * (near c r).val, 0] := by decide +kernel

/-! ## The semaphores -/

/-- The semaphore of the entry handshake; -/
abbrev barS : Sem sig := (SemArray.scalar (sig.barrier 0 rfl) : Sems sig S_).sem
/-- of the copy to the device's own rows; -/
abbrev copyS : DmaSem sig := (21 : Fin 22)
/-- of the end of the send `r + 1` places on; -/
abbrev sendS (r : Fin 7) : DmaSem sig := (⟨6 + r.val, by omega⟩ : Fin 22)
/-- of the arrival from `r + 1` places back; -/
abbrev recvS (r : Fin 7) : DmaSem sig := (⟨14 + r.val, by omega⟩ : Fin 22)
/-- the first entry of each semaphore array, which the kernel does not use. -/
abbrev idleS (i : Fin 2) : DmaSem sig := (⟨5 + 8 * i.val, by omega⟩ : Fin 22)

theorem sendS_1 : ((cc0_scratch1.slice (Rect.unit (s := S8) ![1] S1.size inb_S8_S1_1)).squeeze S_ squeezes_S1_S_).sem = sendS 0 := by rfl
theorem sendS_7 : ((cc0_scratch1.slice (Rect.unit (s := S8) ![7] S1.size inb_S8_S1_7)).squeeze S_ squeezes_S1_S_).sem = sendS 6 := by decide +kernel
theorem copyS_eq : cc0_scratch3.sem = copyS := by decide +kernel

/-- The bytes one transfer counts for. -/
abbrev N : ℕ := (rowsM 0).view.dmaCredit
theorem N_pos : 0 < N := View.dmaCredit_pos _ (by decide)
theorem rows_credit (b : Dev nD) : (rowsM b).view.dmaCredit = N := rfl
theorem chunk_credit (j : Dev nD) : (chunkM j).view.dmaCredit = N := rfl

/-! ## Where the parts lie -/

/-- Element `(p, k)` of chunk `j` is element `(j, p, k)` of the scratch. -/
theorem chunk_emb (j : Dev nD) (x : S512x256.Idx) : (chunkM j).view.emb x = (ix3 j (x 0) (x 1) : S8x512x256.Idx) := by
  have hx : Shape.reshapeEquiv squeezes_S1x512x256_S512x256.numel_eq x = (Fin.cons ⟨0, Nat.one_pos⟩ x : S1x512x256.Idx) :=
    shapeCast_dropUnit_apply ![512, 256] (fun i : S1x512x256.Idx => i) _ x
  have he : (chunkM j).view.emb x = (chunkR j).emb (Shape.reshapeEquiv squeezes_S1x512x256_S512x256.numel_eq x) := rfl
  rw [he, hx]
  funext a
  refine Fin.ext ?_
  rw [Rect.emb_apply]
  fin_cases a
  · show j.val + 1 * 0 = j.val; omega
  · show 0 + 1 * (x 0).val = (x 0).val; omega
  · show 0 + 1 * (x 1).val = (x 1).val; omega

/-- Element `(p, k)` of row block `b` is element `(512 b + p, k)` of the result. -/
theorem rows_emb (b : Dev nD) (x : S512x256.Idx) :
    (rowsM b).view.emb x = (ix2 ⟨512 * b.val + (x 0).val, by have h : b.val < 8 := b.isLt; have h' := idx2_lt0 x; omega⟩ (x 1) : S4096x256.Idx) := by
  have he : (rowsM b).view.emb x = (rowsR b).emb x := rfl
  rw [he]
  funext a
  refine Fin.ext ?_
  rw [Rect.emb_apply]
  fin_cases a
  · show 512 * b.val + 1 * (x 0).val = 512 * b.val + (x 0).val; omega
  · show 0 + 1 * (x 1).val = (x 1).val; omega

/-- Chunk `j` is the elements of the scratch whose first coordinate is `j`; -/
theorem mem_chunk (j : Dev nD) (i : S8x512x256.Idx) : i ∈ (chunkM j).view.set ↔ i 0 = j := by
  have hs : (chunkM j).view.set = (chunkR j).set := (View.set_reshape _ _).trans (View.set_slice_whole cc0_scratch0 (chunkR j))
  rw [hs, Rect.mem_set_unit]
  have h1 : (i 1).val < 512 := (i 1).isLt
  have h2 : (i 2).val < 256 := (i 2).isLt
  constructor
  · intro h
    have h0 := h 0
    refine Fin.ext ?_
    change j.val ≤ (i 0).val ∧ (i 0).val < j.val + 1 at h0
    omega
  · rintro rfl a
    fin_cases a
    · show (i 0).val ≤ (i 0).val ∧ (i 0).val < (i 0).val + 1; omega
    · show 0 ≤ (i 1).val ∧ (i 1).val < 0 + 512; omega
    · show 0 ≤ (i 2).val ∧ (i 2).val < 0 + 256; omega

/-- row block `b` is the elements of the result whose row lies in the `b`-th 512. -/
theorem mem_rows (b : Dev nD) (i : S4096x256.Idx) : i ∈ (rowsM b).view.set ↔ (i 0).val / 512 = b.val := by
  have hs : (rowsM b).view.set = (rowsR b).set := View.set_slice_whole cc0_stg4_0 (rowsR b)
  rw [hs, Rect.mem_set_unit]
  have h1 : (i 1).val < 256 := (i 1).isLt
  constructor
  · intro h
    have h0 := h 0
    change 512 * b.val ≤ (i 0).val ∧ (i 0).val < 512 * b.val + 512 at h0
    omega
  · intro h a
    fin_cases a
    · show 512 * b.val ≤ (i 0).val ∧ (i 0).val < 512 * b.val + 512; omega
    · show 0 ≤ (i 1).val ∧ (i 1).val < 0 + 256; omega

/-- The elements of chunk `j`, and of row block `b`, as elements of the whole buffers. -/
abbrev chunkSet (j : Dev nD) : Finset S8x512x256.Idx := (chunkM j).view.set
abbrev rowsSet (b : Dev nD) : Finset S4096x256.Idx := (rowsM b).view.set

theorem chunks_apart (j j' : Dev nD) (h : j ≠ j') : Disjoint (chunkSet j) (chunkSet j') :=
  Finset.disjoint_left.mpr fun i hi hi' => h (((mem_chunk j i).mp hi).symm.trans ((mem_chunk j' i).mp hi'))
theorem rows_apart (b b' : Dev nD) (h : b ≠ b') : Disjoint (rowsSet b) (rowsSet b') :=
  Finset.disjoint_left.mpr fun i hi hi' => h (Fin.ext (((mem_rows b i).mp hi).symm.trans ((mem_rows b' i).mp hi')))
/-- The eight chunks are the scratch; -/
theorem chunks_cover : (Finset.univ : Finset (Dev nD)).biUnion chunkSet = Finset.univ := by
  ext i
  simp only [Finset.mem_biUnion, Finset.mem_univ, true_and, iff_true]
  exact ⟨i 0, (mem_chunk (i 0) i).mpr rfl⟩
/-- the eight row blocks are the result. -/
theorem rows_cover : (Finset.univ : Finset (Dev nD)).biUnion rowsSet = Finset.univ := by
  ext i
  simp only [Finset.mem_biUnion, Finset.mem_univ, true_and, iff_true]
  have h : (i 0).val < 4096 := (i 0).isLt
  exact ⟨⟨(i 0).val / 512, by show _ < 8; omega⟩, (mem_rows _ i).mpr rfl⟩

end Cert.Exchange

end
-- ==== Proof.Contents.lean ====
/-
What the buffers hold: device `c`'s activated product, the scratch's column chunks of it, and the rows each
device ends with.
-/
module

public import proofs.«01_k».proof.Proof.Places

@[expose] public section

set_option maxRecDepth 16384

noncomputable section

namespace Cert.Exchange

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The operands as the kernel finds them -/

/-- Device `c`'s rows of the left operand; -/
def xAt (c : Dev nD) : (cc0_stg0_0 : Ref sig .tc).ty.Contents (Elt F) :=
  (win0_0.blk (0 : Fin 1)).view.read (Elt F) (m ((c : Thread nD τ).loc main_arg0))
/-- the right operand; -/
def wAt (c : Dev nD) : (cc0_stg1_0 : Ref sig .tc).ty.Contents (Elt F) :=
  (win0_1.blk (0 : Fin 1)).view.read (Elt F) (m ((c : Thread nD τ).loc main_arg1))
/-- the two scales, one element each. -/
def sxAt (c : Dev nD) : (cc0_stg2_0 : Ref sig .tc).ty.Contents (Elt F) :=
  (win0_2.blk (0 : Fin 1)).view.read (Elt F) (m ((c : Thread nD τ).loc main_arg2))
def swAt (c : Dev nD) : (cc0_stg3_0 : Ref sig .tc).ty.Contents (Elt F) :=
  (win0_3.blk (0 : Fin 1)).view.read (Elt F) (m ((c : Thread nD τ).loc main_arg3))

/-- Device `c`'s activated product: its 512 rows, all 2048 columns. -/
def yAt (c : Dev nD) : FVec F S512x2048 .f32 :=
  k0_pay1 (xAt m c) (wAt m c) (sxAt m c (ix1 (0 : Fin 1))) (swAt m c (ix1 (0 : Fin 1)))

/-- Column `k` of column block `j`. -/
def colOf (j : Fin 8) (k : Fin 256) : Fin 2048 := ⟨256 * j.val + k.val, by omega⟩

/-- The scratch of device `c` filled: chunk `j` is column block `j` of its product. -/
def chunksAt (c : Dev nD) : S8x512x256.Idx → F .f32 := fun i => yAt m c (ix2 (i 1) (colOf (i 0) (i 2)))

/-- Device `c`'s result: row block `b` is column block `c` of device `b`'s product. -/
def outAt (c : Dev nD) : S4096x256.Idx → F .f32 := fun i =>
  yAt m ⟨(i 0).val / 512, by show _ < 8; have := idx2_lt0 i; omega⟩ (ix2 ⟨(i 0).val % 512, Nat.mod_lt _ (by decide)⟩ (colOf c (i 1)))

/-! ## What a transfer lands -/

/-- Chunk `n` of device `c`'s scratch, written over row block `c` of device `n`'s result, is that result's
    row block `c`. -/
theorem landed (c n : Dev nD) (fd : S4096x256.Idx → F .f32) (i : S4096x256.Idx) (hi : i ∈ (rowsM c).view.set) :
    (rowsM c).view.write (Elt F) fd ((chunkM n).view.read (Elt F) (chunksAt m c)) Finset.univ i = outAt m n i := by
  obtain ⟨x, -, rfl⟩ := Finset.mem_map.mp hi
  rw [View.write_emb_of_mem _ _ (Finset.mem_univ x)]
  show chunksAt m c ((chunkM n).view.emb x) = outAt m n ((rowsM c).view.emb x)
  rw [chunk_emb, rows_emb]
  have h0 := idx2_lt0 x
  have hd : (512 * c.val + (x 0).val) / 512 = c.val := by omega
  have hm : (512 * c.val + (x 0).val) % 512 = (x 0).val := by omega
  show yAt m c (ix2 (x 0) (colOf n (x 1))) = yAt m ⟨(512 * c.val + (x 0).val) / 512, _⟩ (ix2 ⟨(512 * c.val + (x 0).val) % 512, _⟩ (colOf n (x 1)))
  congr 1
  · congr 1; exact Fin.ext hd.symm
  · congr 1; exact Fin.ext hm.symm

/-! ## What the stores leave -/

/-- Column block `j` of an array, cut out and given a leading unit axis, at an index. -/
theorem cut_apply (y : S512x2048.Idx → F .f32) (j : Dev nD) (h : S512x2048.Slices ![0, 256 * j.val] S512x256) (x : S1x512x256.Idx) :
    shapeCast S1x512x256 (extractStridedSlice S512x256 ![0, 256 * j.val] y h) shapeCasts_S512x256_S1x512x256 x
      = y (ix2 (x 1) (colOf j (x 2))) :=
  (shapeCast_addUnit_apply ![512, 256] (extractStridedSlice S512x256 ![0, 256 * j.val] y h) shapeCasts_S512x256_S1x512x256 x).trans
    (extractStridedSlice_apply ![0, 256 * j.val] y h (fun a => x a.succ) (ix2 (x 1) (colOf j (x 2))) fun a => by
      match a with
      | ⟨0, _⟩ => exact (Nat.zero_add _).symm
      | ⟨1, _⟩ => rfl)

/-- An element of chunk `j`, placed in the scratch. -/
theorem chunkR_emb (j : Dev nD) (x : S1x512x256.Idx) : (chunkR j).emb x = (ix3 j (x 1) (x 2) : S8x512x256.Idx) := by
  have h0 : (x 0).val = 0 := by have h : (x 0).val < 1 := (x 0).isLt; omega
  funext a
  refine Fin.ext ?_
  rw [Rect.emb_apply]
  match a with
  | ⟨0, _⟩ => show j.val + 1 * (x 0).val = j.val; omega
  | ⟨1, _⟩ => show 0 + 1 * (x 1).val = (x 1).val; omega
  | ⟨2, _⟩ => show 0 + 1 * (x 2).val = (x 2).val; omega

/-- A chunk's worth of the product, cut out and given a leading unit axis, is that chunk of the filled scratch. -/
theorem cut_eq (c : Dev nD) (j : Dev nD) (y : S512x2048.Idx → F .f32) (hy : y = yAt m c) {off : Fin 2 → Nat} (ho : off = ![0, 256 * j.val])
    (h : S512x2048.Slices off S512x256) (x : (chunkR j).shape.Idx) :
    shapeCast S1x512x256 (extractStridedSlice S512x256 off y h) shapeCasts_S512x256_S1x512x256 x = chunksAt m c ((chunkR j).emb x) := by
  subst hy ho
  rw [chunkR_emb]
  exact cut_apply (yAt m c) j h x

/-- The scratch with its first `n` chunks filled. -/
def Filled (c : Dev nD) (n : ℕ) (f : S8x512x256.Idx → F .f32) : Prop := ∀ i : S8x512x256.Idx, (i 0).val < n → f i = chunksAt m c i

theorem Filled.all {c : Dev nD} {f : S8x512x256.Idx → F .f32} (h : Filled m c 8 f) : f = chunksAt m c :=
  funext fun i => h i (i 0).isLt

/-- Storing chunk `j` fills it and leaves the earlier ones. -/
theorem Filled.store {c j : Dev nD} {f : S8x512x256.Idx → F .f32} (h : Filled m c j.val f) (w : (chunkR j).shape.Idx → F .f32)
    (hw : ∀ x, w x = chunksAt m c ((chunkR j).emb x)) :
    Filled m c (j.val + 1) ((scrM.access (chunkR j)).write (Elt F) f w Finset.univ) := by
  intro i hi
  by_cases hm : i ∈ (scrM.access (chunkR j)).set
  · obtain ⟨x, -, rfl⟩ := Finset.mem_map.mp hm
    rw [View.write_emb_of_mem _ _ (Finset.mem_univ x)]
    exact hw x
  · rw [View.write_of_not_mem _ _ _ (by rwa [View.setOn_univ])]
    refine h i ?_
    have : i ∉ (chunkM j).view.set := fun h' => hm (by
      rw [show (chunkM j).view.set = _ from View.set_reshape _ _] at h'; exact h')
    rw [mem_chunk] at this
    have hne : (i 0).val ≠ j.val := fun h' => this (Fin.ext h')
    omega

end Cert.Exchange

end
-- ==== Proof.Schedule.lean ====
/-
The exchange's protocol: which semaphore receives what from whom, what each unit hands over, what each
device owes at the start, and in which order it may wait.

Every semaphore is used in one round.  A device's handshake semaphore receives one unit from each of the other
seven; the unit from a peer hands over the peer's own rows that this device will write.  A send semaphore
receives the transfer's bytes and hands the sent chunk back; a receive semaphore receives them and hands over
the rows, holding the sender's values.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

/-! ## The resources -/

/-- The exchange's ghost state: duties numbered by the offset of the device that pays them. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev copyCell (c : Dev nD) : GSem nD τ sig := ((c : Thread nD τ), .dma copyS)
abbrev sendCell (c : Dev nD) (r : Fin 7) : GSem nD τ sig := ((c : Thread nD τ), .dma (sendS r))
abbrev recvCell (c : Dev nD) (r : Fin 7) : GSem nD τ sig := ((c : Thread nD τ), .dma (recvS r))

/-- What a semaphore is for. -/
inductive Use where
  | handshake
  | copied
  | sent (r : Fin 7)
  | arrived (r : Fin 7)
  | idle
  deriving DecidableEq

/-- The use of each semaphore: one regular one, and by number among the DMA semaphores. -/
def use : SemLoc sig → Use
  | .reg _ => .handshake
  | .dma q =>
    if h : 6 ≤ q.val ∧ q.val < 13 then .sent ⟨q.val - 6, by omega⟩
    else if h : 14 ≤ q.val ∧ q.val < 21 then .arrived ⟨q.val - 14, by omega⟩
    else if q.val = 21 then .copied else .idle

theorem use_bar : use (.reg barS) = .handshake := rfl
theorem use_copy : use (.dma copyS) = .copied := by decide
theorem use_send : ∀ r, use (.dma (sendS r)) = .sent r := by decide
theorem use_recv : ∀ r, use (.dma (recvS r)) = .arrived r := by decide
theorem use_idle : ∀ i, use (.dma (idleS i)) = .idle := by decide
theorem use_stage : ∀ q : DmaSem sig, q.val < 5 → use (.dma q) = .idle := by decide

/-! ## What is handed over -/

/-- Chunk `j` of device `c`'s scratch; row block `b` of its result. -/
def chunkPts (c j : Dev nD) (f : S8x512x256.Idx → F .f32) : sProp 𝕄 :=
  (chunkM j).view.loc (c : Thread nD τ) ↦[(chunkM j).view.set]{fullShare} f
def rowsPts (c b : Dev nD) (f : S4096x256.Idx → F .f32) : sProp 𝕄 :=
  (rowsM b).view.loc (c : Thread nD τ) ↦[(rowsM b).view.set]{fullShare} f

omit [FloatOps F] in
instance chunkPts_storable (c j : Dev nD) (f) : BI.Storable (upEmb : UEmb _ 𝕄) (chunkPts (F := F) c j f) := by unfold chunkPts; infer_instance
omit [FloatOps F] in
instance rowsPts_storable (c b : Dev nD) (f) : BI.Storable (upEmb : UEmb _ 𝕄) (rowsPts (F := F) c b f) := by unfold rowsPts; infer_instance

/-- What a unit received at device `c`, on a semaphore of the given use, hands over. -/
def handed (c : Dev nD) (d : Fin 7) : Use → sProp 𝕄
  | .handshake => iprop(∃ f, rowsPts (near c d) c f)
  | .copied => iprop(rowsPts c c (outAt m c) ∗ chunkPts c c (chunksAt m c))
  | .sent r => chunkPts c (far c r) (chunksAt m c)
  | .arrived r => rowsPts c (near c r) (outAt m c)
  | .idle => iprop(emp)

instance handed_storable (c : Dev nD) (d : Fin 7) (u : Use) : BI.Storable (upEmb : UEmb _ 𝕄) (handed (F := F) m c d u) := by
  cases u <;> (unfold handed; infer_instance)

/-- Who pays: the handshake all seven peers, a transfer's semaphore the transfer. -/
def payers : Use → Finset (Fin 7)
  | .handshake => Finset.univ
  | .idle => ∅
  | _ => {0}

/-- The units of one payment. -/
def unitsOf : Use → ℕ
  | .handshake => 1
  | _ => N

/-- The protocol: one round per semaphore. -/
def Rd : Rounds.Schedule (GSem nD τ sig) (Fin 7) 𝕄 where
  duties g r := if r = 0 ∧ g.1.2 = .tc then payers (use g.2) else ∅
  unitless _ := False
  amount g _ _ := unitsOf (use g.2)
  payload g _ d := handed m g.1.1 d (use g.2)
  amount_pos g _ _ _ := by
    unfold unitsOf; split
    · exact Nat.one_pos
    · exact N_pos

instance Rd_payload_storable (g : GSem nD τ sig) (r : ℕ) (d : Fin 7) :
    BI.Storable (upEmb : UEmb _ 𝕄) ((Rd (F := F) m).payload g r d) := by
  show BI.Storable upEmb (handed m g.1.1 d (use g.2)); infer_instance

section Cells
variable (c : Dev nD) (r d : Fin 7)

theorem duties_tc (s : SemLoc sig) : (Rd (F := F) m).duties ((c : Thread nD τ), s) 0 = payers (use s) := by
  dsimp only [Rd]; exact if_pos ⟨rfl, rfl⟩
theorem duties_bar : (Rd (F := F) m).duties (barCell c) 0 = Finset.univ := duties_tc m c _
theorem duties_copy : (Rd (F := F) m).duties (copyCell c) 0 = {0} := (duties_tc m c _).trans (by rw [use_copy]; rfl)
theorem duties_send : (Rd (F := F) m).duties (sendCell c r) 0 = {0} := (duties_tc m c _).trans (by rw [use_send]; rfl)
theorem duties_recv : (Rd (F := F) m).duties (recvCell c r) 0 = {0} := (duties_tc m c _).trans (by rw [use_recv]; rfl)
theorem duties_later (g : GSem nD τ sig) : ∀ n, 1 ≤ n → (Rd (F := F) m).duties g n = ∅ :=
  fun n hn => by dsimp only [Rd]; exact if_neg fun h => by omega
/-- A semaphore the kernel does not use has no duty at all. -/
theorem duties_idle (i : Fin 2) : ∀ n, 0 ≤ n → (Rd (F := F) m).duties ((c : Thread nD τ), .dma (idleS i)) n = ∅ := fun n _ => by
  dsimp only [Rd]; rw [use_idle]; exact ite_self _

theorem amount_bar : (Rd (F := F) m).amount (barCell c) 0 d = 1 := rfl
theorem amount_copy : (Rd (F := F) m).amount (copyCell c) 0 d = N := by dsimp only [Rd]; rw [use_copy]; rfl
theorem amount_send : (Rd (F := F) m).amount (sendCell c r) 0 d = N := by dsimp only [Rd]; rw [use_send]; rfl
theorem amount_recv : (Rd (F := F) m).amount (recvCell c r) 0 d = N := by dsimp only [Rd]; rw [use_recv]; rfl

theorem expect_bar : (Rd (F := F) m).expect (barCell c) 0 = 7 := by
  unfold Schedule.expect Schedule.amountOf
  rw [duties_bar, Finset.sum_congr rfl fun d _ => amount_bar m c d]; rfl
theorem expect_copy : (Rd (F := F) m).expect (copyCell c) 0 = N := by
  unfold Schedule.expect Schedule.amountOf; rw [duties_copy, Finset.sum_singleton, amount_copy]
theorem expect_send : (Rd (F := F) m).expect (sendCell c r) 0 = N := by
  unfold Schedule.expect Schedule.amountOf; rw [duties_send, Finset.sum_singleton, amount_send]
theorem expect_recv : (Rd (F := F) m).expect (recvCell c r) 0 = N := by
  unfold Schedule.expect Schedule.amountOf; rw [duties_recv, Finset.sum_singleton, amount_recv]

theorem payload_bar : (Rd (F := F) m).payload (barCell c) 0 d = iprop(∃ f, rowsPts (near c d) c f) := rfl
theorem payload_copy : (Rd (F := F) m).payload (copyCell c) 0 d = iprop(rowsPts c c (outAt m c) ∗ chunkPts c c (chunksAt m c)) := by
  dsimp only [Rd]; rw [use_copy]; rfl
theorem payload_send : (Rd (F := F) m).payload (sendCell c r) 0 d = chunkPts c (far c r) (chunksAt m c) := by
  dsimp only [Rd]; rw [use_send]; rfl
theorem payload_recv : (Rd (F := F) m).payload (recvCell c r) 0 d = rowsPts c (near c r) (outAt m c) := by
  dsimp only [Rd]; rw [use_recv]; rfl

/-- After the handshake device `c` holds, of each peer it sends to, the rows it writes there. -/
theorem rest_bar : bigSep ((Rd (F := F) m).duties (barCell c) 0 \ ∅) (fun d => (Rd (F := F) m).payload (barCell c) 0 d)
    = bigSep Finset.univ fun r : Fin 7 => iprop(∃ f, rowsPts (far c r) c f) := by
  rw [Finset.sdiff_empty, duties_bar, BI.bigSep_univ_equiv Fin.revPerm]
  exact bigSep_congr fun r _ => by
    rw [payload_bar]; show iprop(∃ f, rowsPts (near c (Fin.rev r)) c f) = _
    rw [near_rev]
theorem rest_copy : bigSep ((Rd (F := F) m).duties (copyCell c) 0 \ ∅) (fun d => (Rd (F := F) m).payload (copyCell c) 0 d)
    = iprop(rowsPts c c (outAt m c) ∗ chunkPts c c (chunksAt m c)) := by
  rw [Finset.sdiff_empty, duties_copy, bigSep_singleton, payload_copy]
theorem rest_send : bigSep ((Rd (F := F) m).duties (sendCell c r) 0 \ ∅) (fun d => (Rd (F := F) m).payload (sendCell c r) 0 d)
    = chunkPts c (far c r) (chunksAt m c) := by
  rw [Finset.sdiff_empty, duties_send, bigSep_singleton, payload_send]
theorem rest_recv : bigSep ((Rd (F := F) m).duties (recvCell c r) 0 \ ∅) (fun d => (Rd (F := F) m).payload (recvCell c r) 0 d)
    = rowsPts c (near c r) (outAt m c) := by
  rw [Finset.sdiff_empty, duties_recv, bigSep_singleton, payload_recv]

end Cells

/-! ## What is owed, and the order of the waits -/

/-- The offsets not yet served, and those served. -/
abbrev rest (n : ℕ) : Finset (Fin 7) := rangeSet 7 n 7
abbrev done (n : ℕ) : Finset (Fin 7) := rangeSet 7 0 n

theorem rest_eq (r : Fin 7) : rest r.val = insert r (rest (r.val + 1)) := rangeSet_head (NB := 7) (lo := r.val) r.isLt r.isLt
theorem not_mem_rest (r : Fin 7) : r ∉ rest (r.val + 1) := head_not_mem_rangeSet (NB := 7) r.isLt
theorem done_eq (r : Fin 7) : done (r.val + 1) = insert r (done r.val) := by
  ext b; rw [Finset.mem_insert, mem_rangeSet, mem_rangeSet, Fin.ext_iff]; omega
theorem not_mem_done (r : Fin 7) : r ∉ done r.val := by rw [mem_rangeSet]; omega

theorem rest_take (Φ : Fin 7 → sProp 𝕄) (r : Fin 7) : bigSep (rest r.val) Φ = iprop(Φ r ∗ bigSep (rest (r.val + 1)) Φ) := by
  rw [rest_eq r, bigSep_insert (not_mem_rest r)]; rfl
theorem done_put (Φ : Fin 7 → sProp 𝕄) (r : Fin 7) : bigSep (done (r.val + 1)) Φ = iprop(Φ r ∗ bigSep (done r.val) Φ) := by
  rw [done_eq, bigSep_insert (not_mem_done r)]; rfl
theorem rest_all (Φ : Fin 7 → sProp 𝕄) : bigSep (rest 0) Φ = bigSep Finset.univ Φ := by rw [show rest 0 = Finset.univ from rangeSet_univ]
theorem done_all (Φ : Fin 7 → sProp 𝕄) : bigSep (done 7) Φ = bigSep Finset.univ Φ := by rw [show done 7 = Finset.univ from rangeSet_univ]
theorem rest_none (Φ : Fin 7 → sProp 𝕄) : bigSep (rest 7) Φ = iprop(emp) := bigSep_rangeSet_empty le_rfl
theorem done_none (Φ : Fin 7 → sProp 𝕄) : bigSep (done 0) Φ = iprop(emp) := bigSep_rangeSet_empty le_rfl

/-- The arrivals device `c` owes once the sends before offset `n` are on their way, and the handshake units it
    owes once the signals before offset `n` are given. -/
def owedSends (c : Dev nD) (n : ℕ) : CellTallies nD τ sig Unit := ∑ r ∈ rest n, tallyAt (recvCell (far c r) r) () N
def owedUnits (c : Dev nD) (n : ℕ) : CellTallies nD τ sig Unit := ∑ r ∈ rest n, tallyAt (barCell (far c r)) () 1
/-- What device `c` owes at the start. -/
def O₀ (c : Dev nD) : CellTallies nD τ sig Unit := owedSends c 0 + owedUnits c 0

theorem owedSends_take (c : Dev nD) (r : Fin 7) : owedSends c r.val = owedSends c (r.val + 1) + tallyAt (recvCell (far c r) r) () N := by
  unfold owedSends; conv_lhs => rw [rest_eq r, Finset.sum_insert (not_mem_rest r), add_comm]
theorem owedUnits_take (c : Dev nD) (r : Fin 7) : owedUnits c r.val = owedUnits c (r.val + 1) + tallyAt (barCell (far c r)) () 1 := by
  unfold owedUnits; conv_lhs => rw [rest_eq r, Finset.sum_insert (not_mem_rest r), add_comm]
theorem owedSends_none (c : Dev nD) : owedSends c 7 = 0 := by unfold owedSends; rw [show rest 7 = ∅ from rangeSet_empty le_rfl]; rfl
theorem owedUnits_none (c : Dev nD) : owedUnits c 7 = 0 := by unfold owedUnits; rw [show rest 7 = ∅ from rangeSet_empty le_rfl]; rfl

theorem tally_sum_pos {S : Finset (Fin 7)} {T : Fin 7 → GSem nD τ sig} {k : ℕ} {g : GSem nD τ sig} {u : Unit}
    (h : 0 < (∑ r ∈ S, tallyAt (T r) () k : CellTallies nD τ sig Unit) g u) : ∃ r, g = T r := by
  rw [Finset.sum_apply, Finsupp.finset_sum_apply] at h
  obtain ⟨r, -, hr⟩ := Finset.exists_ne_zero_of_sum_ne_zero h.ne'
  refine ⟨r, ?_⟩
  by_contra hn
  rw [tallyAt_apply, if_neg fun h' => hn h'.1] at hr
  exact hr rfl

/-- Everything owed lies on a semaphore of some device's own core. -/
def L (g : GSem nD τ sig) : Finset Unit := if g.1.2 = .tc then {()} else ∅
/-- The order of the waits: staging and sends, then the handshake, then arrivals. -/
def lv (g : GSem nD τ sig) (_ : Unit) : ℕ := match use g.2 with | .handshake => 1 | .arrived _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 7) (u : Unit) : lv (recvCell c r) u = 2 := by unfold lv; rw [use_recv]
theorem lv_bar (c : Dev nD) (u : Unit) : lv (barCell c) u = 1 := rfl

/-- A device may wait on a semaphore while all it owes lies later in the order. -/
theorem mayWait_of (c : Dev nD) (sm : SemLoc sig) (l : ℕ) (O : CellTallies nD τ sig Unit) (hs : lv ((c : Thread nD τ), sm) () = l)
    (hO : ∀ g u, 0 < O g u → g.1.2 = .tc ∧ l < lv g u) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs.le)
    (fun g u hg => (hO g u hg).2)

/-- The handshake is waited for owing the sends only; -/
theorem mayWait_bar (c : Dev nD) : (levAts L lv : sProp 𝕄) ⊢ MayWait (c : Thread nD τ) (.reg barS) () (owedSends c 0) :=
  mayWait_of c _ 1 _ rfl fun g u hg => by
    obtain ⟨r, rfl⟩ := tally_sum_pos hg
    exact ⟨rfl, by rw [lv_recv]; decide⟩

/-- the operands' staging is waited for owing everything, or nothing. -/
theorem mayWait_stage (c : Dev nD) (q : DmaSem sig) (hq : use (.dma q) = .idle) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by unfold lv; rw [hq]) fun g u hg => ?_
    unfold O₀ at hg
    rw [Pi.add_apply, Finsupp.add_apply] at hg
    rcases Nat.add_pos_iff_pos_or_pos.mp hg with h | h
    · obtain ⟨r, rfl⟩ := tally_sum_pos h
      exact ⟨rfl, by rw [lv_recv]; decide⟩
    · obtain ⟨r, rfl⟩ := tally_sum_pos h
      exact ⟨rfl, by rw [lv_bar]; decide⟩
  · rw [MayWait_zero]; iintro -; iempintro

end Cert.Exchange

end
-- ==== Proof.Steps.lean ====
/-
The exchange's steps, one rule for each kind of operation the body performs: a handshake signal, the handshake
wait, a store of a chunk, the local copy, a send to a peer, the waits.  The rules for the seven peers are one
rule with the peer's number as a parameter.
-/
module

public import proofs.«01_k».proof.Proof.Schedule

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records every device keeps -/

/-- The semaphores the launch hands the kernel beside its handshake: two unused, copy, sends, arrivals. -/
abbrev OwnIx : Type := Fin 2 ⊕ Unit ⊕ Fin 7 ⊕ Fin 7
abbrev osem : OwnIx → SemLoc sig :=
  Sum.elim (fun i => .dma (idleS i)) (Sum.elim (fun _ => .dma copyS) (Sum.elim (fun r => .dma (sendS r)) fun r => .dma (recvS r)))
/-- All the semaphores of the exchange. -/
abbrev CellIx : Type := Unit ⊕ OwnIx
abbrev csem : CellIx → SemLoc sig := Sum.elim (fun _ => .reg barS) osem
abbrev kcell (p : Dev nD × CellIx) : GSem nD τ sig := ((p.1 : Thread nD τ), csem p.2)
abbrev ixBar : CellIx := .inl ()
abbrev ixIdle (i : Fin 2) : CellIx := .inr (.inl i)
abbrev ixCopy : CellIx := .inr (.inr (.inl ()))
abbrev ixSend (r : Fin 7) : CellIx := .inr (.inr (.inr (.inl r)))
abbrev ixRecv (r : Fin 7) : CellIx := .inr (.inr (.inr (.inr r)))

/-- The records: every semaphore's invariant, under the name `K` gives it, and that its round is open. -/
def records (K : Dev nD × CellIx → ℕ) : sProp 𝕄 :=
  iprop(bigSep Finset.univ (fun p => cellInv ER (Rd m) (K p) (kcell p)) ∗ bigSep Finset.univ (fun p => reached ER (kcell p) 0))

instance records_persistent (K : Dev nD × CellIx → ℕ) : BI.Persistent (records m K) := by unfold records; infer_instance

theorem records_inv (K : Dev nD × CellIx → ℕ) (p : Dev nD × CellIx) : records m K ⊢ cellInv ER (Rd m) (K p) (kcell p) := by
  unfold records
  exact (BI.Entails.trans BI.sep_and and_elimL).trans (bigSep_elim (Finset.mem_univ p))
theorem records_reached (K : Dev nD × CellIx → ℕ) (p : Dev nD × CellIx) : records m K ⊢ reached ER (kcell p) 0 := by
  unfold records
  exact (BI.Entails.trans BI.sep_and and_elimR).trans (bigSep_elim (Finset.mem_univ p))

abbrev 𝒱₀ : Variants := Variants.none

/-- What it takes for a program on device `c` to run to the end and leave `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable (K : Dev nD × CellIx → ℕ) (c : Dev nD)

/-! ## The handshake -/

/-- Before the signal to the `n`-th peer: what is owed, and for each peer left the token and the rows to hand over. -/
def signalState (n : ℕ) : sProp 𝕄 :=
  iprop((∃ W, owes (c : Thread nD τ) (owedSends c 0 + owedUnits c n) W)
    ∗ bigSep (rest n) fun r => iprop(dutyTok ER (barCell (far c r)) 0 r ∗ ∃ f, rowsPts (F := F) c (far c r) f))

/-- The signal to the peer `r + 1` places on hands it the rows of this device's result it will write. -/
theorem signal_step (r : Fin 7) {n : Dev nD} {s : Sem sig} {k' : Int} {α : Type} {Q : α → sProp 𝕄} {k : PUnit → Prog (TpuEff nD τ sig (Elt F) Λ₀ .tc) α}
    (hn : n = far c r) (hs : s = barS) (hk : k' = ((1 : ℕ) : Int)) :
    iprop(records m K ∗ signalState c r.val)
      ⊢ iprop((signalState c (r.val + 1) -∗ run c (k ⟨⟩) Q) -∗ run c (.op (.semSignal (n, .tc) s k') k) Q) := by
  subst hn hs hk
  unfold signalState
  rw [rest_take _ r]
  iintro ⟨#HR, ⟨%W, HO⟩, ⟨Ht, Hrows⟩, Hrest⟩ Hk
  iapply (Rounds.wp_signal 𝒱₀ ER (Rd m) (c : Thread nD τ) none (dst := (far c r : Thread nD τ)) (κ := K (far c r, ixBar)) (r := 0)
      (d := r) (by rw [duties_bar]; exact Finset.mem_univ _) (amount_bar m (far c r) r) () (O₀ := owedSends c 0 + owedUnits c r.val) (owedSends c 0 + owedUnits c (r.val + 1))
      (by rw [owedUnits_take c r, add_assoc]) (W := W)) $$ [HO Ht Hrows]
  · isplitr; · iapply (records_inv m K (far c r, ixBar)); iexact HR
    isplitl [HO]; · iexact HO
    isplitl [Ht]; · iexact Ht
    isplitl [Hrows]
    · rw [payload_bar, near_far]; iexact Hrows
    iapply (records_reached m K (far c r, ixBar)); iexact HR
  iintro HO
  iapply Hk
  isplitl [HO]; · iexists W; iexact HO
  iexact Hrest

/-- The wait for the seven signals: of each peer it sends to, the device now holds the rows it writes there. -/
theorem handshake_step {s : Sem sig} {k' : Int} {α : Type} {Q : α → sProp 𝕄} {k : PUnit → Prog (TpuEff nD τ sig (Elt F) Λ₀ .tc) α}
    (hs : s = barS) (hk : k' = ((7 : ℕ) : Int)) :
    iprop(records m K ∗ levAts L lv ∗ signalState (F := F) c 7 ∗ cred (tallyAt (barCell c) () 7) ∗ atPos ER (barCell c) 0 ∅ 0)
      ⊢ iprop((((∃ W, owes (c : Thread nD τ) (owedSends c 0) W) ∗ atPos ER (barCell c) 1 ∅ 0
            ∗ bigSep Finset.univ fun r : Fin 7 => iprop(∃ f, rowsPts (F := F) (far c r) c f)) -∗ run c (k ⟨⟩) Q)
          -∗ run c (.op (.semWait s k') k) Q) := by
  subst hs hk
  unfold signalState
  rw [rest_none, owedUnits_none, add_zero]
  iintro ⟨#HR, #Hlev, ⟨⟨%W, HO⟩, -⟩, Hc, Hat⟩ Hk
  iapply (Rounds.wp_wait_rest_token 𝒱₀ ER (Rd m) (c : Thread nD τ) none (κ := K (c, ixBar))
      (wpE_semWait_eq 𝒱₀ (c : Thread nD τ) none Set.univ) (Set.mem_univ _) () (O := owedSends c 0) (W := W) (R := 0) (m := 0) (T := ∅)
      (by rw [expect_bar])) $$ [Hc HO Hat]
  · isplitr; · iapply (records_inv m K (c, ixBar)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat] <;> iassumption

/-! ## The stores -/

/-- The scratch with its first `n` chunks filled. -/
def scrState (n : ℕ) : sProp 𝕄 := iprop(∃ f : S8x512x256.Idx → F .f32, ⌜Filled m c n f⌝ ∗ ((c : Thread nD τ).loc cc0_scratch0 ↦{fullShare} f))

/-- Loading from the scratch keeps it. -/
theorem scr_load_step (n : ℕ) {r : LoadRect S8x512x256} {hl : scrM.view.LoadsAt r}
    {α : Type} {Q : α → sProp 𝕄} {k : (r.shape.Idx → Elt F .f32) → Prog (TpuEff nD τ sig (Elt F) Λ₀ .tc) α} :
    scrState m c n ⊢ iprop((∀ v, scrState m c n -∗ run c (k v) Q) -∗ run c (.op (.load scrM r hl) k) Q) := by
  unfold scrState
  iintro ⟨%f, %hf, Hs⟩ Hk
  iapply (wp_load 𝒱₀ (c : Thread nD τ) none Set.univ (m := scrM) (Finset.subset_univ _)) $$ Hs
  iintro Hs
  iapply Hk
  iexists f
  isplitr; · ipureintro; exact hf
  iexact Hs

/-- Storing chunk `j` of the product fills it. -/
theorem scr_store_step (j : Dev nD) {r : Rect S8x512x256} {w : r.shape.Idx → Elt F .f32} {hx : (scrM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α}
    (hr : r = chunkR j) (hw : ∀ x, w x = chunksAt m c (r.emb x)) :
    scrState m c j.val ⊢ iprop((scrState m c (j.val + 1) -∗ run c (k ⟨⟩) Q) -∗ run c (.op (.store scrM r w Finset.univ hx hm) k) Q) := by
  subst hr
  unfold scrState
  iintro ⟨%f, %hf, Hs⟩ Hk
  iapply (wp_store 𝒱₀ (c : Thread nD τ) none Set.univ (m := scrM) (r := chunkR j) (Mk := Finset.univ) (Finset.subset_univ _)) $$ Hs
  iintro Hs
  iapply Hk
  iexists _
  isplitr; · ipureintro; exact hf.store m w hw
  iexact Hs

/-! ## The transfers -/

/-- A chunk that lands makes the rows hold their final values. -/
theorem landed_pts (c n : Dev nD) (fd : S4096x256.Idx → F .f32) :
    ((rowsM c).view.loc (n : Thread nD τ) ↦[(rowsM c).view.set]{fullShare}
        (rowsM c).view.write (Elt F) fd ((chunkM n).view.read (Elt F) (chunksAt m c)) Finset.univ : sProp 𝕄)
      ⊢ rowsPts n c (outAt m n) := by
  unfold rowsPts
  exact Entails.of_eq (pointsTo_congr fun i hi => landed m c n fd i hi)

/-- The copy of the device's own chunk to its own rows. -/
theorem copy_step {src dst : Memref sig .tc .vmem S512x256 .f32} {s : DmaSem sig}
    {hsrc : src.view.WordExact} {hdst : dst.view.WordExact} {hsem : DmaTarget.Typed .vmem (.dma s) (DmaTarget.here (nD := nD) (τ := τ) (p := Proc.tc) dst)}
    {α : Type} {Q : α → sProp 𝕄} {k : PUnit → Prog (TpuEff nD τ sig (Elt F) Λ₀ .tc) α}
    (hs' : src = chunkM c) (hd' : dst = rowsM c) (hs : s = copyS) :
    iprop(records m K ∗ chunkPts c c (chunksAt m c) ∗ (∃ f, rowsPts c c f) ∗ dutyTok ER (copyCell c) 0 (0 : Fin 7))
      ⊢ iprop((cred (tallyAt (copyCell c) () N) -∗ run c (k ⟨⟩) Q)
          -∗ run c (.op (.enqueueDma src (.here dst) (.dma s) hsrc hdst hsem) k) Q) := by
  subst hs' hd' hs
  iintro ⟨#HR, Hch, ⟨%fd, Hrows⟩, Ht⟩ Hk
  unfold chunkPts rowsPts
  have hpay : iprop(((rowsM c).view.loc (c : Thread nD τ) ↦[(rowsM c).view.set]{fullShare}
        ((rowsM c).view.write (Elt F) fd ((chunkM c).view.read (Elt F) (chunksAt m c)) Finset.univ))
      ∗ ((chunkM c).view.loc (c : Thread nD τ) ↦[(chunkM c).view.set]{fullShare} (chunksAt m c)))
      ⊢ (Rd m).payload ((c : Thread nD τ), .dma copyS) 0 (0 : Fin 7) := by
    rw [payload_copy]; exact sep_mono_left (landed_pts m c c fd)
  have H := Rounds.wp_copy_pointsTo (defs := defs₀) 𝒱₀ ER (Rd m) (c : Thread nD τ) none (Γ := []) (Es := Set.univ) (Q := Q) (k := k)
    (src := chunkM c) (dst := rowsM c) (hsrc := hsrc) (hdst := hdst) (hsem := hsem) (κ := K (c, ixCopy)) (r := 0) (d := (0 : Fin 7))
    (q := fullShare) (fs := chunksAt m c) (fd := fd) (by rw [duties_copy]; exact Finset.mem_singleton_self _) () N rfl (amount_copy m c 0) hpay
  iapply H $$ [Hch Hrows Ht]
  · isplitr; · iapply (records_inv m K (c, ixCopy)); iexact HR
    isplitl [Hch]; · iexact Hch
    isplitl [Hrows]; · iexact Hrows
    isplitl [Ht]; · iexact Ht
    iapply (records_reached m K (c, ixCopy)); iexact HR
  iintro Hc
  iapply Hk; iexact Hc

/-- Before the send to the `n`-th peer: what is owed, what the sends left need, and the credit of those under way. -/
def sendState (n : ℕ) : sProp 𝕄 :=
  iprop((∃ W, owes (c : Thread nD τ) (owedSends c n) W)
    ∗ bigSep (rest n) (fun r => iprop((dutyTok ER (sendCell c r) 0 (0 : Fin 7) ∗ dutyTok ER (recvCell (far c r) r) 0 (0 : Fin 7))
        ∗ chunkPts c (far c r) (chunksAt m c) ∗ ∃ f, rowsPts (F := F) (far c r) c f))
    ∗ bigSep (done n) fun r => cred (tallyAt (sendCell c r) () N))

/-- The send of the peer's chunk to the device's rows of the peer's result. -/
theorem send_step (r : Fin 7) {n : Dev nD} {src : Memref sig .tc .vmem S512x256 .f32}
    {dst : Memref sig (Dev.tc n : Thread nD τ).2.kind .vmem S512x256 .f32} {s₁ s₂ : DmaSem sig} {hsc : dst.view.ref.isScScratch = false}
    {hsrc : src.view.WordExact} {hdst : dst.view.WordExact} {hsem : DmaTarget.Typed .vmem (.dma s₂) (.remote (Dev.tc n : Thread nD τ) dst (.dma s₁) hsc)}
    {α : Type} {Q : α → sProp 𝕄} {k : PUnit → Prog (TpuEff nD τ sig (Elt F) Λ₀ .tc) α}
    (hn : n = far c r) (hs' : src = chunkM (far c r)) (hd' : dst = rowsM c) (hs₁ : s₁ = sendS r) (hs₂ : s₂ = recvS r) :
    iprop(records m K ∗ sendState m c r.val)
      ⊢ iprop((sendState m c (r.val + 1) -∗ run c (k ⟨⟩) Q)
          -∗ run c (.op (.enqueueDma src (.remote (Dev.tc n : Thread nD τ) dst (.dma s₁) hsc) (.dma s₂) hsrc hdst hsem) k) Q) := by
  subst hn hs' hd' hs₁ hs₂
  unfold sendState
  rw [rest_take _ r, done_put _ r]
  iintro ⟨#HR, ⟨%W, HO⟩, ⟨⟨⟨Hts, Htr⟩, Hch, ⟨%fd, Hrows⟩⟩, Hrest⟩, Hdone⟩ Hk
  unfold chunkPts rowsPts
  have hpay₁ : ((chunkM (far c r)).view.loc (c : Thread nD τ) ↦[(chunkM (far c r)).view.set]{fullShare} (chunksAt m c) : sProp 𝕄)
      ⊢ (Rd m).payload ((c : Thread nD τ), .dma (sendS r)) 0 (0 : Fin 7) := by
    rw [payload_send]; exact BI.Entails.refl _
  have hpay₂ : ((rowsM c).view.loc (far c r : Thread nD τ) ↦[(rowsM c).view.set]{fullShare}
        ((rowsM c).view.write (Elt F) fd ((chunkM (far c r)).view.read (Elt F) (chunksAt m c)) Finset.univ) : sProp 𝕄)
      ⊢ (Rd m).payload ((far c r : Thread nD τ), .dma (recvS r)) 0 (0 : Fin 7) := by
    rw [payload_recv, near_far]; exact landed_pts m c (far c r) fd
  have H := Rounds.wp_send_pointsTo (defs := defs₀) 𝒱₀ ER (Rd m) (c : Thread nD τ) none (Γ := []) (Es := Set.univ) (Q := Q) (k := k)
    (c' := (far c r : Thread nD τ)) (src := chunkM (far c r)) (dst := rowsM c) (hsc := hsc) (hsrc := hsrc) (hdst := hdst) (hsem := hsem)
    (κ₁ := K (c, ixSend r)) (κ₂ := K (far c r, ixRecv r)) (r₁ := 0) (r₂ := 0) (d₁ := (0 : Fin 7)) (d₂ := (0 : Fin 7))
    (q := fullShare) (fs := chunksAt m c) (fd := fd)
    (by rw [duties_send]; exact Finset.mem_singleton_self _) (by rw [duties_recv]; exact Finset.mem_singleton_self _)
    () () N rfl (amount_send m c r 0) (amount_recv m (far c r) r 0) (O₀ := owedSends c r.val) (owedSends c (r.val + 1)) (owedSends_take c r) (W := W)
    hpay₁ hpay₂
  iapply H $$ [Hch Hrows HO Hts Htr]
  · isplitr; · iapply (records_inv m K (c, ixSend r)); iexact HR
    isplitr; · iapply (records_inv m K (far c r, ixRecv r)); iexact HR
    isplitl [Hch]; · iexact Hch
    isplitl [Hrows]; · iexact Hrows
    isplitl [HO]; · iexact HO
    isplitl [Hts]; · iexact Hts
    isplitr; · iapply (records_reached m K (c, ixSend r)); iexact HR
    isplitl [Htr]; · iexact Htr
    iapply (records_reached m K (far c r, ixRecv r)); iexact HR
  iintro ⟨Hc, HO⟩
  iapply Hk
  isplitl [HO]; · iexists W; iexact HO
  isplitl [Hrest]; · iexact Hrest
  isplitl [Hc] <;> iassumption

/-! ## The waits -/

/-- The wait for a transfer on a semaphore that expects one: what the transfer hands over comes with it. -/
theorem wait_step (ix : CellIx) {q s : DmaSem sig} {sp sp' : Space} {sh sh' : Shape} {e e' : EltTy} {κ' : Kind}
    {src : Memref sig .tc sp' sh' e'} {dst : Memref sig κ' sp sh e} {hsrc : src.view.WordExact} {hdst : dst.view.WordExact}
    {α : Type} {Q : α → sProp 𝕄} {k : PUnit → Prog (TpuEff nD τ sig (Elt F) Λ₀ .tc) α} (P : sProp 𝕄)
    (hix : csem ix = .dma q) (hs : s = q) (hN : dst.view.dmaCredit = N) (he : (Rd m).expect ((c : Thread nD τ), .dma q) 0 = N)
    (hP : bigSep ((Rd (F := F) m).duties ((c : Thread nD τ), .dma q) 0 \ ∅) (fun d => (Rd (F := F) m).payload ((c : Thread nD τ), .dma q) 0 d) = P) :
    iprop(records m K ∗ (∃ W, owes (c : Thread nD τ) 0 W) ∗ cred (tallyAt ((c : Thread nD τ), .dma q) () N) ∗ atPos ER ((c : Thread nD τ), .dma q) 0 ∅ 0)
      ⊢ iprop((((∃ W, owes (c : Thread nD τ) 0 W) ∗ atPos ER ((c : Thread nD τ), .dma q) 1 ∅ 0 ∗ P) -∗ run c (k ⟨⟩) Q)
          -∗ run c (.op (.waitDma2 s src dst hsrc hdst) k) Q) := by
  subst hs hP
  have hcell : kcell (c, ix) = ((c : Thread nD τ), .dma s) := by show ((c : Thread nD τ), csem ix) = _; rw [hix]
  iintro ⟨#HR, ⟨%W, HO⟩, Hc, Hat⟩ Hk
  iapply (Rounds.wp_wait_rest_token 𝒱₀ ER (Rd m) (c : Thread nD τ) none (κ := K (c, ix))
      (wpE_waitDma2_eq 𝒱₀ (c : Thread nD τ) none Set.univ) (Set.mem_univ _) () (O := 0) (W := W) (R := 0) (m := 0) (T := ∅)
      (by rw [Nat.zero_add, he, hN])) $$ [Hc HO Hat]
  · isplitr
    · rw [← hcell]; iapply (records_inv m K (c, ix)); iexact HR
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iexact HO
  isplitl [Hat] <;> iassumption

/-- Waiting for seven transfers, one semaphore `q r` each: the first `n` have come, each with its `P r`. -/
def waitState (q : Fin 7 → DmaSem sig) (P : Fin 7 → sProp 𝕄) (n : ℕ) : sProp 𝕄 :=
  iprop((∃ W, owes (c : Thread nD τ) 0 W)
    ∗ bigSep (rest n) (fun r => iprop(cred (tallyAt ((c : Thread nD τ), .dma (q r)) () N) ∗ atPos ER ((c : Thread nD τ), .dma (q r)) 0 ∅ (0 : ℕ)))
    ∗ bigSep (done n) fun r => iprop(atPos ER ((c : Thread nD τ), .dma (q r)) 1 ∅ (0 : ℕ) ∗ P r))

/-- The wait for the end of the send to the peer `r + 1` places on: its chunk comes back. -/
theorem sent_step (r : Fin 7) {s : DmaSem sig} {src dst : Memref sig .tc .vmem S512x256 .f32} {hsrc : src.view.WordExact} {hdst : dst.view.WordExact}
    {α : Type} {Q : α → sProp 𝕄} {k : PUnit → Prog (TpuEff nD τ sig (Elt F) Λ₀ .tc) α} (hs : s = sendS r) (hN : dst.view.dmaCredit = N) :
    iprop(records m K ∗ waitState c sendS (fun r => chunkPts c (far c r) (chunksAt m c)) r.val)
      ⊢ iprop((waitState c sendS (fun r => chunkPts c (far c r) (chunksAt m c)) (r.val + 1) -∗ run c (k ⟨⟩) Q)
          -∗ run c (.op (.waitDma2 s src dst hsrc hdst) k) Q) := by
  unfold waitState
  rw [rest_take _ r, done_put _ r]
  iintro ⟨#HR, HO, ⟨⟨Hc, Hat⟩, Hrest⟩, Hdone⟩ Hk
  iapply (wait_step m K c (ixSend r) (q := sendS r) _ rfl hs hN (expect_send m c r) (rest_send m c r)) $$ [HO Hc Hat]
  · isplitr; · iexact HR
    isplitl [HO]; · iexact HO
    isplitl [Hc] <;> iassumption
  iintro ⟨HO, Hat, HP⟩
  iapply Hk
  isplitl [HO]; · iexact HO
  isplitl [Hrest]; · iexact Hrest
  isplitr [Hdone]
  · isplitl [Hat] <;> iassumption
  iexact Hdone

/-- The wait for the arrival from the peer `r + 1` places back: the device's rows come with the peer's values. -/
theorem arrived_step (r : Fin 7) {s : DmaSem sig} {src dst : Memref sig .tc .vmem S512x256 .f32} {hsrc : src.view.WordExact} {hdst : dst.view.WordExact}
    {α : Type} {Q : α → sProp 𝕄} {k : PUnit → Prog (TpuEff nD τ sig (Elt F) Λ₀ .tc) α} (hs : s = recvS r) (hN : dst.view.dmaCredit = N) :
    iprop(records m K ∗ waitState c recvS (fun r => rowsPts c (near c r) (outAt m c)) r.val)
      ⊢ iprop((waitState c recvS (fun r => rowsPts c (near c r) (outAt m c)) (r.val + 1) -∗ run c (k ⟨⟩) Q)
          -∗ run c (.op (.waitDma2 s src dst hsrc hdst) k) Q) := by
  unfold waitState
  rw [rest_take _ r, done_put _ r]
  iintro ⟨#HR, HO, ⟨⟨Hc, Hat⟩, Hrest⟩, Hdone⟩ Hk
  iapply (wait_step m K c (ixRecv r) (q := recvS r) _ rfl hs hN (expect_recv m c r) (rest_recv m c r)) $$ [HO Hc Hat]
  · isplitr; · iexact HR
    isplitl [HO]; · iexact HO
    isplitl [Hc] <;> iassumption
  iintro ⟨HO, Hat, HP⟩
  iapply Hk
  isplitl [HO]; · iexact HO
  isplitl [Hrest]; · iexact Hrest
  isplitr [Hdone]
  · isplitl [Hat] <;> iassumption
  iexact Hdone

end Steps

end Cert.Exchange

end
-- ==== Proof.Body.lean ====
/-
The kernel's body on one device, run from the resources it starts with to those it ends with: the device's rows
handed to the peers, the product stored, the chunks exchanged, every wait done and every semaphore back at zero.
-/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Families over the devices and over the semaphores -/

theorem split_far (c : Dev nD) (Φ : Dev nD → sProp 𝕄) :
    bigSep Finset.univ Φ = iprop(Φ c ∗ bigSep Finset.univ fun r : Fin 7 => Φ (far c r)) := by
  rw [bigSep_univ_equiv (Equiv.ofBijective _ (fromDev_bijective c)) Φ, bigSep_univ_sum, bigSep_univ_of_subsingleton ()]
  rfl
theorem split_near (c : Dev nD) (Φ : Dev nD → sProp 𝕄) :
    bigSep Finset.univ Φ = iprop(Φ c ∗ bigSep Finset.univ fun r : Fin 7 => Φ (near c r)) := by
  rw [bigSep_univ_equiv (Equiv.ofBijective _ (intoDev_bijective c)) Φ, bigSep_univ_sum, bigSep_univ_of_subsingleton ()]
  rfl
theorem split_own (Φ : OwnIx → sProp 𝕄) :
    bigSep Finset.univ Φ = iprop(bigSep Finset.univ (fun i : Fin 2 => Φ (.inl i)) ∗ Φ (.inr (.inl ()))
      ∗ bigSep Finset.univ (fun r : Fin 7 => Φ (.inr (.inr (.inl r)))) ∗ bigSep Finset.univ fun r : Fin 7 => Φ (.inr (.inr (.inr r)))) := by
  rw [bigSep_univ_sum, bigSep_univ_sum, bigSep_univ_sum, bigSep_univ_of_subsingleton (I := Unit) ()]
  rfl
theorem split_cells (Φ : CellIx → sProp 𝕄) :
    bigSep Finset.univ Φ = iprop(Φ ixBar ∗ bigSep Finset.univ fun i : OwnIx => Φ (.inr i)) := by
  rw [bigSep_univ_sum, bigSep_univ_of_subsingleton (I := Unit) ()]
  rfl

/-- The scratch is the device's own chunk and those it sends; -/
theorem scr_split (c : Dev nD) (f : S8x512x256.Idx → F .f32) :
    ((c : Thread nD τ).loc cc0_scratch0 ↦{fullShare} f : sProp 𝕄) = iprop(chunkPts c c f ∗ bigSep Finset.univ fun r : Fin 7 => chunkPts c (far c r) f) := by
  rw [← split_far c fun j => chunkPts c j f]
  exact pointsTo_blocks (Ix := Unit) (Val := Elt F) (Name := ℕ) (U := UU) (Lvl := ℕ) (q := fullShare) (ℓ := (c : Thread nD τ).loc cc0_scratch0) chunkSet chunks_apart chunks_cover f
/-- the result is the device's own rows and those it lets the peers further round write, -/
theorem out_split (c : Dev nD) (f : S4096x256.Idx → F .f32) :
    ((c : Thread nD τ).loc cc0_stg4_0 ↦{fullShare} f : sProp 𝕄) = iprop(rowsPts c c f ∗ bigSep Finset.univ fun r : Fin 7 => rowsPts c (far c r) f) := by
  rw [← split_far c fun j => rowsPts c j f]
  exact pointsTo_blocks (Ix := Unit) (Val := Elt F) (Name := ℕ) (U := UU) (Lvl := ℕ) (q := fullShare) (ℓ := (c : Thread nD τ).loc cc0_stg4_0) rowsSet rows_apart rows_cover f
/-- and also its own rows and those the peers further back wrote. -/
theorem out_join (c : Dev nD) (f : S4096x256.Idx → F .f32) :
    ((c : Thread nD τ).loc cc0_stg4_0 ↦{fullShare} f : sProp 𝕄) = iprop(rowsPts c c f ∗ bigSep Finset.univ fun r : Fin 7 => rowsPts c (near c r) f) := by
  rw [← split_near c fun j => rowsPts c j f]
  exact pointsTo_blocks (Ix := Unit) (Val := Elt F) (Name := ℕ) (U := UU) (Lvl := ℕ) (q := fullShare) (ℓ := (c : Thread nD τ).loc cc0_stg4_0) rowsSet rows_apart rows_cover f

/-- Semaphores whose rounds are all past close: their counters, at zero, are the device's again. -/
theorem close_cells (K : Dev nD × CellIx → ℕ) (c : Dev nD) {I : Type} [Fintype I] [DecidableEq I] (ix : I → CellIx) (R : ℕ)
    (hR : ∀ i n, R ≤ n → (Rd (F := F) m).duties (kcell (c, ix i)) n = ∅) :
    iprop(records m K ∗ bigSep Finset.univ fun i => atPos ER (kcell (c, ix i)) R ∅ (0 : ℕ))
      ⊢ |={Set.univ}=> bigSep Finset.univ fun i => (semVal (kcell (c, ix i)) 0 : sProp 𝕄) := by
  refine (bigSep_with_persistent (R := records m K) (Ψ := fun i => iprop(|={Set.univ}=> (semVal (kcell (c, ix i)) 0 : sProp 𝕄))) fun i _ => ?_).trans (bigSep_fupd _ _)
  iintro ⟨#HR, Hat⟩
  iapply (Rounds.cell_close ER (Rd m) (Set.mem_univ (K (c, ix i))) (fun h => h) (R := R) (hR i))
  isplitr; · iapply (records_inv m K (c, ix i)); iexact HR
  iexact Hat

/-! ## What a device starts with and ends with -/

/-- The tokens of the duties device `c` pays. -/
def tokens (c : Dev nD) : sProp 𝕄 :=
  iprop(bigSep Finset.univ (fun r : Fin 7 => dutyTok ER (barCell (far c r)) 0 r) ∗ dutyTok ER (copyCell c) 0 (0 : Fin 7)
    ∗ bigSep Finset.univ (fun r : Fin 7 => dutyTok ER (sendCell c r) 0 (0 : Fin 7)) ∗ bigSep Finset.univ fun r : Fin 7 => dutyTok ER (recvCell (far c r) r) 0 (0 : Fin 7))

/-- The credit of what its peers owe device `c`. -/
def credits (c : Dev nD) : sProp 𝕄 :=
  iprop(cred (tallyAt (barCell c) () 7) ∗ bigSep Finset.univ fun r : Fin 7 => cred (tallyAt (recvCell c r) () N))

def start (c : Dev nD) : sProp 𝕄 :=
  iprop((∃ K, records m K ∗ bigSep Finset.univ (fun ix => atPos ER (kcell (c, ix)) 0 ∅ (0 : ℕ)) ∗ tokens c) ∗ credits c ∗ levAts L lv)

def Φ₀ (c : Dev nD) : sProp 𝕄 := iprop(start m c ∗ ∃ f, (c : Thread nD τ).loc cc0_scratch0 ↦{fullShare} f)
def Φ₁ (c : Dev nD) : sProp 𝕄 :=
  iprop((∃ f, (c : Thread nD τ).loc cc0_scratch0 ↦{fullShare} f) ∗ (bigSep Finset.univ fun i : OwnIx => semVal (kcell (c, .inr i)) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => sxAt m c
    | ⟨3, _⟩ => swAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Exchange

end
-- ==== Proof.Run.lean ====
/-
The kernel's body on one device, run from what the device starts with to what it ends with, one rule per
operation.
-/
module

public import proofs.«01_k».proof.Proof.Body

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the loads read -/

theorem hz1 : (![0] : Fin 1 → Nat) = fun _ => 0 := funext fun a => by fin_cases a; rfl
theorem hz2 : (![0, 0] : Fin 2 → Nat) = fun _ => 0 := funext fun a => by fin_cases a <;> rfl

theorem read_x (f : (cc0_stg0_0 : Ref sig .tc).ty.Contents (Elt F)) :
    (Memref.whole cc0_stg0_0).view.readAt (Elt F) (Rect.unit (s := S512x4096) ![0, 0] S512x4096.size inb_S512x4096_S512x4096_0_0).toLoadRect f = f :=
  Memref.readAt_unit_zero (Elt F) cc0_stg0_0 hz2 _ f
theorem read_w (f : (cc0_stg1_0 : Ref sig .tc).ty.Contents (Elt F)) :
    (Memref.whole cc0_stg1_0).view.readAt (Elt F) (Rect.unit (s := S4096x2048) ![0, 0] S4096x2048.size inb_S4096x2048_S4096x2048_0_0).toLoadRect f = f :=
  Memref.readAt_unit_zero (Elt F) cc0_stg1_0 hz2 _ f
theorem read_sx (f : (cc0_stg2_0 : Ref sig .tc).ty.Contents (Elt F)) :
    (Memref.whole cc0_stg2_0).view.readAt (Elt F) (Rect.unit (s := S1) ![0] S1.size inb_S1_S1_0).toLoadRect f = f :=
  Memref.readAt_unit_zero (Elt F) cc0_stg2_0 hz1 _ f
theorem read_sw (f : (cc0_stg3_0 : Ref sig .tc).ty.Contents (Elt F)) :
    (Memref.whole cc0_stg3_0).view.readAt (Elt F) (Rect.unit (s := S1) ![0] S1.size inb_S1_S1_0).toLoadRect f = f :=
  Memref.readAt_unit_zero (Elt F) cc0_stg3_0 hz1 _ f
/-- A scale has one element. -/
theorem idx_one (i : S1.Idx) : i = ix1 (0 : Fin 1) := by
  funext a; fin_cases a; exact Fin.ext (by have h : (i 0).val < 1 := (i 0).isLt; show (i 0).val = 0; omega)

/-! ## The body -/

section Body

variable (K : Dev nD × CellIx → ℕ) (c : Dev nD)

def bodyPre : sProp 𝕄 :=
  iprop(records m K ∗ levAts L lv ∗ bigSep Finset.univ (fun ix => atPos ER (kcell (c, ix)) 0 ∅ (0 : ℕ)) ∗ tokens c ∗ credits c
    ∗ (∃ f, (c : Thread nD τ).loc cc0_scratch0 ↦{fullShare} f) ∗ (∃ W, owes (c : Thread nD τ) (O₀ c) W)
    ∗ ((c : Thread nD τ).loc cc0_stg0_0 ↦{fullShare} xAt m c) ∗ ((c : Thread nD τ).loc cc0_stg1_0 ↦{fullShare} wAt m c)
    ∗ ((c : Thread nD τ).loc cc0_stg2_0 ↦{fullShare} sxAt m c) ∗ ((c : Thread nD τ).loc cc0_stg3_0 ↦{fullShare} swAt m c)
    ∗ ∃ f, (c : Thread nD τ).loc cc0_stg4_0 ↦{fullShare} f)

def bodyPost : sProp 𝕄 :=
  iprop(Φ₁ c ∗ (∃ W, owes (c : Thread nD τ) 0 W)
    ∗ ((c : Thread nD τ).loc cc0_stg0_0 ↦{fullShare} xAt m c) ∗ ((c : Thread nD τ).loc cc0_stg1_0 ↦{fullShare} wAt m c)
    ∗ ((c : Thread nD τ).loc cc0_stg2_0 ↦{fullShare} sxAt m c) ∗ ((c : Thread nD τ).loc cc0_stg3_0 ↦{fullShare} swAt m c)
    ∗ ((c : Thread nD τ).loc cc0_stg4_0 ↦{fullShare} outAt m c))

/-- Nothing signalled yet. -/
theorem signal_intro (g : S4096x256.Idx → F .f32) :
    iprop((∃ W, owes (c : Thread nD τ) (O₀ c) W) ∗ bigSep Finset.univ (fun r : Fin 7 => dutyTok ER (barCell (far c r)) 0 r)
        ∗ bigSep Finset.univ fun r : Fin 7 => rowsPts c (far c r) g)
      ⊢ signalState (F := F) c 0 := by
  unfold signalState
  rw [rest_all, bigSep_sep']
  exact sep_mono_right (sep_mono_right (bigSep_mono fun r _ => exists_intro (Φ := fun f => rowsPts c (far c r) f) g))
/-- No chunk stored yet. -/
theorem scr_intro (f : S8x512x256.Idx → F .f32) : ((c : Thread nD τ).loc cc0_scratch0 ↦{fullShare} f : sProp 𝕄) ⊢ scrState m c 0 := by
  unfold scrState
  iintro H
  iexists f
  isplitr; · ipureintro; exact fun i hi => absurd hi (Nat.not_lt_zero _)
  iexact H

/-- All eight chunks stored: the device's own and those for the peers. -/
theorem scr_done : scrState m c 8 ⊢ iprop(chunkPts c c (chunksAt m c) ∗ bigSep Finset.univ fun r : Fin 7 => chunkPts c (far c r) (chunksAt m c)) := by
  unfold scrState
  iintro ⟨%f, %hf, H⟩
  rw [hf.all]
  iapply (Entails.of_eq (scr_split c (chunksAt m c)))
  iexact H
/-- Nothing sent yet. -/
theorem send_intro :
    iprop((∃ W, owes (c : Thread nD τ) (owedSends c 0) W) ∗ bigSep Finset.univ (fun r : Fin 7 => dutyTok ER (sendCell c r) 0 (0 : Fin 7))
        ∗ bigSep Finset.univ (fun r : Fin 7 => dutyTok ER (recvCell (far c r) r) 0 (0 : Fin 7))
        ∗ bigSep Finset.univ (fun r : Fin 7 => chunkPts c (far c r) (chunksAt m c))
        ∗ bigSep Finset.univ fun r : Fin 7 => iprop(∃ f, rowsPts (F := F) (far c r) c f))
      ⊢ sendState m c 0 := by
  unfold sendState
  rw [rest_all, done_none, bigSep_sep', bigSep_sep', bigSep_sep']
  iintro ⟨HO, Hs, Hv, Hch, Hr⟩
  isplitl [HO]; · iexact HO
  isplitl
  · isplitl [Hs Hv]
    · isplitl [Hs] <;> iassumption
    isplitl [Hch] <;> iassumption
  iempintro

/-- All sent: nothing is owed any more, and each send under way has its credit. -/
theorem send_done : sendState m c 7
    ⊢ iprop((∃ W, owes (c : Thread nD τ) 0 W) ∗ bigSep Finset.univ fun r : Fin 7 => cred (tallyAt (sendCell c r) () N)) := by
  unfold sendState
  rw [owedSends_none, done_all]
  iintro ⟨HO, -, H⟩
  isplitl [HO] <;> iassumption
/-- Nothing waited for yet; -/
theorem wait_intro (q : Fin 7 → DmaSem sig) (P : Fin 7 → sProp 𝕄) :
    iprop((∃ W, owes (c : Thread nD τ) 0 W) ∗ bigSep Finset.univ (fun r => cred (tallyAt ((c : Thread nD τ), .dma (q r)) () N))
        ∗ bigSep Finset.univ fun r => atPos ER ((c : Thread nD τ), .dma (q r)) 0 ∅ (0 : ℕ))
      ⊢ waitState c q P 0 := by
  unfold waitState
  rw [rest_all, done_none, bigSep_sep']
  iintro ⟨HO, Hc, Ha⟩
  isplitl [HO]; · iexact HO
  isplitl
  · isplitl [Hc] <;> iassumption
  iempintro
/-- everything waited for. -/
theorem wait_done (q : Fin 7 → DmaSem sig) (P : Fin 7 → sProp 𝕄) :
    waitState c q P 7
      ⊢ iprop((∃ W, owes (c : Thread nD τ) 0 W) ∗ bigSep Finset.univ (fun r => atPos ER ((c : Thread nD τ), .dma (q r)) 1 ∅ (0 : ℕ))
          ∗ bigSep Finset.univ P) := by
  unfold waitState
  rw [rest_none, done_all, bigSep_sep']
  iintro ⟨HO, -, Ha, HP⟩
  isplitl [HO]; · iexact HO
  isplitl [Ha] <;> iassumption

/-- All the device's semaphores close. -/
theorem close_all :
    iprop(records m K ∗ atPos ER (barCell c) 1 ∅ (0 : ℕ) ∗ bigSep Finset.univ (fun i => atPos ER (kcell (c, ixIdle i)) 0 ∅ (0 : ℕ))
        ∗ atPos ER (copyCell c) 1 ∅ (0 : ℕ) ∗ bigSep Finset.univ (fun r => atPos ER (sendCell c r) 1 ∅ (0 : ℕ))
        ∗ bigSep Finset.univ fun r => atPos ER (recvCell c r) 1 ∅ (0 : ℕ))
      ⊢ |={Set.univ}=> iprop((bigSep Finset.univ fun i : OwnIx => (semVal (kcell (c, .inr i)) 0 : sProp 𝕄)) ∗ semVal (barCell c) 0) := by
  have one (g : GSem nD τ sig) : ∀ n, 0 + 1 ≤ n → (Rd (F := F) m).duties g n = ∅ := duties_later m g
  iintro ⟨#HR, HaB, HaI, HaC, HaS, HaV⟩
  imod (Rounds.cell_close ER (Rd m) (Set.mem_univ (K (c, ixBar))) (fun h => h) (R := 1) (one (barCell c))) $$ [HaB] with HzB
  · isplitr; · iapply (records_inv m K (c, ixBar)); iexact HR
    iexact HaB
  imod (Rounds.cell_close ER (Rd m) (Set.mem_univ (K (c, ixCopy))) (fun h => h) (R := 1) (one (copyCell c))) $$ [HaC] with HzC
  · isplitr; · iapply (records_inv m K (c, ixCopy)); iexact HR
    iexact HaC
  imod (close_cells m K c ixIdle 0 (duties_idle m c)) $$ [HaI] with HzI
  · isplitr; · iexact HR
    iexact HaI
  imod (close_cells m K c ixSend 1 fun r => one (sendCell c r)) $$ [HaS] with HzS
  · isplitr; · iexact HR
    iexact HaS
  imod (close_cells m K c ixRecv 1 fun r => one (recvCell c r)) $$ [HaV] with HzV
  · isplitr; · iexact HR
    iexact HaV
  imodintro
  isplitr [HzB]
  · rw [split_own]
    isplitl [HzI]; · iexact HzI
    isplitl [HzC]; · iexact HzC
    isplitl [HzS] <;> iassumption
  iexact HzB

set_option maxHeartbeats 1600000 in
/-- The body, run from `bodyPre` to `bodyPost`. -/
theorem sound_body (Kt : PUnit → sProp 𝕄) :
    iprop(bodyPre m K c ∗ (bodyPost m c -∗ Kt ⟨⟩))
      ⊢ run c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          outM (Memref.isWhole_whole _) scrM (Memref.isWhole_whole _) cc0_scratch1 cc0_scratch2 cc0_scratch3) Kt := by
  rw [cc0_body_eq_skeleton]; unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, smemLoad, smemLoadElt, Prog.lift, Prog.bind_op, Prog.bind_ret, Prog.pure_eq_ret, wp_deviceId]
  unfold bodyPre tokens credits
  rw [split_cells, split_own]
  iintro ⟨⟨#HR, #Hlev, ⟨HaB, HaI, HaC, HaS, HaV⟩, ⟨HtB, HtC, HtS, HtV⟩, ⟨HcB, HcV⟩, ⟨%f0, Hscr⟩, HO, Hx, Hw, Hsx, Hsw, ⟨%g0, Hout⟩⟩, Hk⟩
  ihave Hout' := (Entails.of_eq (out_split c g0)) $$ Hout
  icases Hout' with ⟨Hown, Hrows⟩
  -- the handshake: seven signals, each handing over the rows the peer writes, and the wait for seven
  ihave HS := (signal_intro c g0) $$ [HO HtB Hrows]
  · isplitl [HO]; · iexact HO
    isplitl [HtB] <;> iassumption
  iapply (signal_step m K c (0 : Fin 7) (dev1_eq c) rfl rfl) $$ [HS]
  · isplitr; · iexact HR
    iexact HS
  iintro HS
  iapply (signal_step m K c (1 : Fin 7) (dev2_eq c) rfl rfl) $$ [HS]
  · isplitr; · iexact HR
    iexact HS
  iintro HS
  iapply (signal_step m K c (2 : Fin 7) (dev3_eq c) rfl rfl) $$ [HS]
  · isplitr; · iexact HR
    iexact HS
  iintro HS
  iapply (signal_step m K c (3 : Fin 7) (dev4_eq c) rfl rfl) $$ [HS]
  · isplitr; · iexact HR
    iexact HS
  iintro HS
  iapply (signal_step m K c (4 : Fin 7) (dev5_eq c) rfl rfl) $$ [HS]
  · isplitr; · iexact HR
    iexact HS
  iintro HS
  iapply (signal_step m K c (5 : Fin 7) (dev6_eq c) rfl rfl) $$ [HS]
  · isplitr; · iexact HR
    iexact HS
  iintro HS
  iapply (signal_step m K c (6 : Fin 7) (dev7_eq c) rfl rfl) $$ [HS]
  · isplitr; · iexact HR
    iexact HS
  iintro HS
  iapply (handshake_step m K c rfl rfl) $$ [HS HcB HaB]
  · isplitr; · iexact HR
    isplitr; · iexact Hlev
    isplitl [HS]; · iexact HS
    isplitl [HcB]; · iexact HcB
    iexact HaB
  iintro ⟨HO, HaB, Hpeers⟩
  -- the product: the operands loaded, the eight chunks stored
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hsx; iintro Hsx
  rw [read_sx, idx_one (Shape.Idx.first _)]
  iapply (wp_load 𝒱₀ (c : Thread nD τ) none Set.univ (m := Memref.whole cc0_stg3_0) (Finset.subset_univ _)) $$ Hsw; iintro Hsw
  rw [read_sw]
  ihave HS := (scr_intro m c f0) $$ Hscr
  iapply (scr_load_step m c 0) $$ [HS]
  · iexact HS
  iintro %v0 HS
  iapply (scr_store_step m c (0 : Fin 8) rfl (fun x => cut_eq m c (0 : Fin 8) _ rfl rfl slices_S512x2048_o0_0_S512x256 x)) $$ [HS]
  · iexact HS
  iintro HS
  iapply (scr_load_step m c 1) $$ [HS]
  · iexact HS
  iintro %v1 HS
  iapply (scr_store_step m c (1 : Fin 8) rfl (fun x => cut_eq m c (1 : Fin 8) _ rfl rfl slices_S512x2048_o0_256_S512x256 x)) $$ [HS]
  · iexact HS
  iintro HS
  iapply (scr_load_step m c 2) $$ [HS]
  · iexact HS
  iintro %v2 HS
  iapply (scr_store_step m c (2 : Fin 8) rfl (fun x => cut_eq m c (2 : Fin 8) _ rfl rfl slices_S512x2048_o0_512_S512x256 x)) $$ [HS]
  · iexact HS
  iintro HS
  iapply (scr_load_step m c 3) $$ [HS]
  · iexact HS
  iintro %v3 HS
  iapply (scr_store_step m c (3 : Fin 8) rfl (fun x => cut_eq m c (3 : Fin 8) _ rfl rfl slices_S512x2048_o0_768_S512x256 x)) $$ [HS]
  · iexact HS
  iintro HS
  iapply (scr_load_step m c 4) $$ [HS]
  · iexact HS
  iintro %v4 HS
  iapply (scr_store_step m c (4 : Fin 8) rfl (fun x => cut_eq m c (4 : Fin 8) _ rfl rfl slices_S512x2048_o0_1024_S512x256 x)) $$ [HS]
  · iexact HS
  iintro HS
  iapply (scr_load_step m c 5) $$ [HS]
  · iexact HS
  iintro %v5 HS
  iapply (scr_store_step m c (5 : Fin 8) rfl (fun x => cut_eq m c (5 : Fin 8) _ rfl rfl slices_S512x2048_o0_1280_S512x256 x)) $$ [HS]
  · iexact HS
  iintro HS
  iapply (scr_load_step m c 6) $$ [HS]
  · iexact HS
  iintro %v6 HS
  iapply (scr_store_step m c (6 : Fin 8) rfl (fun x => cut_eq m c (6 : Fin 8) _ rfl rfl slices_S512x2048_o0_1536_S512x256 x)) $$ [HS]
  · iexact HS
  iintro HS
  iapply (scr_load_step m c 7) $$ [HS]
  · iexact HS
  iintro %v7 HS
  iapply (scr_store_step m c (7 : Fin 8) rfl (fun x => cut_eq m c (7 : Fin 8) _ rfl rfl slices_S512x2048_o0_1792_S512x256 x)) $$ [HS]
  · iexact HS
  iintro HS
  -- the chunks told apart; the own one copied, the others sent
  ihave Hch := (scr_done m c) $$ [HS]
  · iexact HS
  icases Hch with ⟨Hmine, Hchunks⟩
  iapply (copy_step m K c (chunkM_of c (k0_off2_eq c) _) (rowsM_of c (k0_off1_eq c) _) copyS_eq) $$ [Hmine Hown HtC]
  · isplitr; · iexact HR
    isplitl [Hmine]; · iexact Hmine
    isplitl [Hown]; · iexists g0; iexact Hown
    iexact HtC
  iintro HcC
  ihave HS := (send_intro m c) $$ [HO HtS HtV Hchunks Hpeers]
  · isplitl [HO]; · iexact HO
    isplitl [HtS]; · iexact HtS
    isplitl [HtV]; · iexact HtV
    isplitl [Hchunks] <;> iassumption
  iapply (send_step m K c (0 : Fin 7) (dev8_eq c) (chunkM_of (far c 0) (off3_eq c 0) _) (rowsM_of c (k0_off1_eq c) _) rfl rfl) $$ [HS]
  · isplitr; · iexact HR
    iexact HS
  iintro HS
  iapply (send_step m K c (1 : Fin 7) (dev9_eq c) (chunkM_of (far c 1) (off3_eq c 1) _) (rowsM_of c (k0_off1_eq c) _) rfl rfl) $$ [HS]
  · isplitr; · iexact HR
    iexact HS
  iintro HS
  iapply (send_step m K c (2 : Fin 7) (dev10_eq c) (chunkM_of (far c 2) (off3_eq c 2) _) (rowsM_of c (k0_off1_eq c) _) rfl rfl) $$ [HS]
  · isplitr; · iexact HR
    iexact HS
  iintro HS
  iapply (send_step m K c (3 : Fin 7) (dev11_eq c) (chunkM_of (far c 3) (off3_eq c 3) _) (rowsM_of c (k0_off1_eq c) _) rfl rfl) $$ [HS]
  · isplitr; · iexact HR
    iexact HS
  iintro HS
  iapply (send_step m K c (4 : Fin 7) (dev12_eq c) (chunkM_of (far c 4) (off3_eq c 4) _) (rowsM_of c (k0_off1_eq c) _) rfl rfl) $$ [HS]
  · isplitr; · iexact HR
    iexact HS
  iintro HS
  iapply (send_step m K c (5 : Fin 7) (dev13_eq c) (chunkM_of (far c 5) (off3_eq c 5) _) (rowsM_of c (k0_off1_eq c) _) rfl rfl) $$ [HS]
  · isplitr; · iexact HR
    iexact HS
  iintro HS
  iapply (send_step m K c (6 : Fin 7) (dev14_eq c) (chunkM_of (far c 6) (off3_eq c 6) _) (rowsM_of c (k0_off1_eq c) _) rfl rfl) $$ [HS]
  · isplitr; · iexact HR
    iexact HS
  iintro HS
  ihave HS' := (send_done m c) $$ [HS]
  · iexact HS
  icases HS' with ⟨HO, HcS⟩
  -- the waits: the copy, the seven sends, the seven arrivals
  iapply (wait_step m K c ixCopy (q := copyS) _ rfl copyS_eq (by rfl) (expect_copy m c) (rest_copy m c)) $$ [HO HcC HaC]
  · isplitr; · iexact HR
    isplitl [HO]; · iexact HO
    isplitl [HcC]; · iexact HcC
    iexact HaC
  iintro ⟨HO, HaC, Hown, Hmine⟩
  ihave HS := (wait_intro c sendS (fun r => chunkPts c (far c r) (chunksAt m c))) $$ [HO HcS HaS]
  · isplitl [HO]; · iexact HO
    isplitl [HcS]; · iexact HcS
    iexact HaS
  iapply (sent_step m K c (0 : Fin 7) rfl (by rfl)) $$ [HS]
  · isplitr; · iexact HR
    iexact HS
  iintro HS
  iapply (sent_step m K c (1 : Fin 7) rfl (by rfl)) $$ [HS]
  · isplitr; · iexact HR
    iexact HS
  iintro HS
  iapply (sent_step m K c (2 : Fin 7) rfl (by rfl)) $$ [HS]
  · isplitr; · iexact HR
    iexact HS
  iintro HS
  iapply (sent_step m K c (3 : Fin 7) rfl (by rfl)) $$ [HS]
  · isplitr; · iexact HR
    iexact HS
  iintro HS
  iapply (sent_step m K c (4 : Fin 7) rfl (by rfl)) $$ [HS]
  · isplitr; · iexact HR
    iexact HS
  iintro HS
  iapply (sent_step m K c (5 : Fin 7) rfl (by rfl)) $$ [HS]
  · isplitr; · iexact HR
    iexact HS
  iintro HS
  iapply (sent_step m K c (6 : Fin 7) rfl (by rfl)) $$ [HS]
  · isplitr; · iexact HR
    iexact HS
  iintro HS
  ihave HS' := (wait_done c sendS (fun r => chunkPts c (far c r) (chunksAt m c))) $$ [HS]
  · iexact HS
  icases HS' with ⟨HO, HaS, Hchunks⟩
  ihave HS := (wait_intro c recvS (fun r => rowsPts c (near c r) (outAt m c))) $$ [HO HcV HaV]
  · isplitl [HO]; · iexact HO
    isplitl [HcV]; · iexact HcV
    iexact HaV
  iapply (arrived_step m K c (0 : Fin 7) rfl (by rfl)) $$ [HS]
  · isplitr; · iexact HR
    iexact HS
  iintro HS
  iapply (arrived_step m K c (1 : Fin 7) rfl (by rfl)) $$ [HS]
  · isplitr; · iexact HR
    iexact HS
  iintro HS
  iapply (arrived_step m K c (2 : Fin 7) rfl (by rfl)) $$ [HS]
  · isplitr; · iexact HR
    iexact HS
  iintro HS
  iapply (arrived_step m K c (3 : Fin 7) rfl (by rfl)) $$ [HS]
  · isplitr; · iexact HR
    iexact HS
  iintro HS
  iapply (arrived_step m K c (4 : Fin 7) rfl (by rfl)) $$ [HS]
  · isplitr; · iexact HR
    iexact HS
  iintro HS
  iapply (arrived_step m K c (5 : Fin 7) rfl (by rfl)) $$ [HS]
  · isplitr; · iexact HR
    iexact HS
  iintro HS
  iapply (arrived_step m K c (6 : Fin 7) rfl (by rfl)) $$ [HS]
  · isplitr; · iexact HR
    iexact HS
  iintro HS
  ihave HS' := (wait_done c recvS (fun r => rowsPts c (near c r) (outAt m c))) $$ [HS]
  · iexact HS
  icases HS' with ⟨HO, HaV, Hrows⟩
  -- the semaphores close, the buffers are whole again
  imod (close_all m K c) $$ [HaB HaI HaC HaS HaV] with HZ
  · isplitr; · iexact HR
    isplitl [HaB]; · iexact HaB
    isplitl [HaI]; · iexact HaI
    isplitl [HaC]; · iexact HaC
    isplitl [HaS] <;> iassumption
  icases HZ with ⟨HZ, HzB⟩
  rw [wp_ret]; imodintro
  iapply Hk
  unfold bodyPost Φ₁
  isplitl [Hmine Hchunks HZ HzB]
  · isplitl [Hmine Hchunks]
    · iexists (chunksAt m c)
      rw [scr_split]
      isplitl [Hmine] <;> iassumption
    isplitl [HZ] <;> iassumption
  isplitl [HO]; · iexact HO
  isplitl [Hx]; · iexact Hx
  isplitl [Hw]; · iexact Hw
  isplitl [Hsx]; · iexact Hsx
  isplitl [Hsw]; · iexact Hsw
  rw [out_join]
  isplitl [Hown] <;> iassumption

end Body

end Cert.Exchange

end
-- ==== Proof.Launch.lean ====
/-
The launch: the body meets the pipeline's obligation, the exchange's ghost state is dealt to the eight devices,
and the whole program runs to its end from any memory.
-/
module

public import proofs.«01_k».proof.Proof.Run
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's obligation -/

theorem fetch_0 (t : Fin cfg0.N) : (cfg0.win (0 : Fin 5)).fetch t = true := by rw [fin_N0 t]; rfl
theorem fetch_1 (t : Fin cfg0.N) : (cfg0.win (1 : Fin 5)).fetch t = true := by rw [fin_N0 t]; rfl
theorem fetch_2 (t : Fin cfg0.N) : (cfg0.win (2 : Fin 5)).fetch t = true := by rw [fin_N0 t]; rfl
theorem fetch_3 (t : Fin cfg0.N) : (cfg0.win (3 : Fin 5)).fetch t = true := by rw [fin_N0 t]; rfl

/-- What the pipeline hands the body, -/
def handedIn (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
/-- and what it takes back. -/
def handedBack (c : Dev nD) : sProp 𝕄 :=
  iprop(Φ₁ c ∗ (dats m 0 c).owesAt () t0_0.succ
    ∗ stg c cc0_stg0_0 (xAt m c) ∗ stg c cc0_stg1_0 (wAt m c) ∗ stg c cc0_stg2_0 (sxAt m c) ∗ stg c cc0_stg3_0 (swAt m c)
    ∗ stg c cc0_stg4_0 (outAt m c))

/-- Device `c`'s body meets the pipeline's obligation. -/
theorem body_obligation (c : Dev nD) : BodyObligation (dats (F := F) m 0 c) (defs₀ (F := F)) 𝒱₀ () Set.univ := fun t => by
  rw [fin_N0 t]; rw [bigSep_W0, bigSep_W0]; simp only [owns_whole_eq]
  show handedIn m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      outM (Memref.isWhole_whole _) scrM (Memref.isWhole_whole _) cc0_scratch1 cc0_scratch2 cc0_scratch3) (fun _ => handedBack m c)
  unfold handedIn Φ₀ start
  iintro ⟨⟨⟨⟨%K, #HR, Hat, Htok⟩, Hcr, #Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have hx : g0 = xAt m c := by rw [hg0]; unfold Dat.before; rw [if_pos (fetch_0 t0_0)]; rfl
  have hw : g1 = wAt m c := by rw [hg1]; unfold Dat.before; rw [if_pos (fetch_1 t0_0)]; rfl
  have hsx : g2 = sxAt m c := by rw [hg2]; unfold Dat.before; rw [if_pos (fetch_2 t0_0)]; rfl
  have hsw : g3 = swAt m c := by rw [hg3]; unfold Dat.before; rw [if_pos (fetch_3 t0_0)]; rfl
  rw [hx, hw, hsx, hsw]
  unfold Dat.owesAt Pipeline.owesWithin
  icases Ho with ⟨%W, %hW, HO⟩
  rw [show (dats m 0 c).owed t0_0.castSucc = O₀ c from rfl]
  iapply (sound_body m K c fun _ => handedBack m c)
  unfold bodyPre
  isplitr []
  · isplitr; · iexact HR
    isplitr; · iexact Hlev
    isplitl [Hat]; · iexact Hat
    isplitl [Htok]; · iexact Htok
    isplitl [Hcr]; · iexact Hcr
    isplitl [Hscr]; · iexact Hscr
    isplitl [HO]; · iexists W; iexact HO
    isplitl [H0]; · iexact H0
    isplitl [H1]; · iexact H1
    isplitl [H2]; · iexact H2
    isplitl [H3]; · iexact H3
    iexists g4; iexact H4
  · unfold bodyPost handedBack Dat.owesAt Pipeline.owesWithin
    rw [show (dats m 0 c).owed t0_0.succ = 0 from rfl]
    iintro ⟨HΦ, ⟨%W', HO⟩, H0, H1, H2, H3, H4⟩
    isplitl [HΦ]; · iexact HΦ
    isplitl [HO]
    · iexists W'
      isplitr; · ipureintro; exact fun _ _ => Or.inl trivial
      iexact HO
    isplitl [H0]
    · iexists _
      isplitr; · ipureintro; rfl
      iexact H0
    isplitl [H1]
    · iexists _
      isplitr; · ipureintro; rfl
      iexact H1
    isplitl [H2]
    · iexists _
      isplitr; · ipureintro; rfl
      iexact H2
    isplitl [H3]
    · iexists _
      isplitr; · ipureintro; rfl
      iexact H3
    iexists _
    isplitr; · ipureintro; rfl
    iexact H4

/-! ## The ghost state, minted -/

theorem ownSemFacts : Pipeline.OwnSemFacts cfg0.spec osem := by decide +kernel

theorem share_eq (c : Dev nD) (w : Fin cfg0.W) : (dats m 0 c).share w = fullShare := by unfold Dat.share; split <;> rfl

theorem csem_injective : Function.Injective csem := by decide +kernel

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All the exchange's semaphores, over all devices. -/
def allCells : Finset (GSem nD τ sig) := Finset.univ.map ⟨kcell, kcell_injective⟩

/-- The duties of one device's semaphores: its handshake's seven, its copy's, its sends', its arrivals'. -/
abbrev DutyIx : Type := Fin 7 ⊕ Unit ⊕ Fin 7 ⊕ Fin 7
abbrev dutyAt : DutyIx → SemLoc sig × Fin 7 :=
  Sum.elim (fun d => (.reg barS, d)) (Sum.elim (fun _ => (.dma copyS, 0)) (Sum.elim (fun r => (.dma (sendS r), 0)) fun r => (.dma (recvS r), 0)))
theorem dutyAt_injective : Function.Injective dutyAt := by decide +kernel

abbrev tokOf (p : Dev nD × DutyIx) : GSem nD τ sig × ℕ × Fin 7 := (((p.1 : Thread nD τ), (dutyAt p.2).1), 0, (dutyAt p.2).2)
theorem tokOf_injective : Function.Injective tokOf := by
  rintro ⟨c, k⟩ ⟨c', k'⟩ h
  have h1 : c = c' := congrArg (fun x : GSem nD τ sig × ℕ × Fin 7 => x.1.1.1) h
  have h2 : k = k' := dutyAt_injective (Prod.ext (congrArg (fun x : GSem nD τ sig × ℕ × Fin 7 => x.1.2) h) (congrArg (fun x : GSem nD τ sig × ℕ × Fin 7 => x.2.2) h))
  rw [h1, h2]

/-- All their duties. -/
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The tokens of the duties of device `c`'s own semaphores. -/
def minted (c : Dev nD) : sProp 𝕄 := bigSep Finset.univ fun j : DutyIx => dutyTok ER (tokOf (c, j)).1 (tokOf (c, j)).2.1 (tokOf (c, j)).2.2

/-- What the launch deals device `c`, -/
def G (c : Dev nD) : sProp 𝕄 :=
  iprop((bigSep Finset.univ fun k : CellIx => roundState ER (Rd m) (kcell (c, k)) 0)
    ∗ ((bigSep Finset.univ fun k : CellIx => atPos ER (kcell (c, k)) 0 ∅ (0 : ℕ)) ∗ bigSep Finset.univ fun k : CellIx => reached ER (kcell (c, k)) 0) ∗ minted c)

/-- and what the devices together make of it. -/
def G' (c : Dev nD) : sProp 𝕄 :=
  iprop(∃ K, records m K ∗ bigSep Finset.univ (fun ix => atPos ER (kcell (c, ix)) 0 ∅ (0 : ℕ)) ∗ tokens c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The ghost state, dealt -/

/-- The barrier semaphore is the launch's one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, split_cells]
  unfold Pipeline.ownSems0
  iintro ⟨HS, HB⟩
  isplitl [HB]; · iexact HB
  iexact HS

/-- One device puts its semaphores under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : CellIx => atPos ER (kcell (c, k)) 0 ∅ (0 : ℕ)) ∗ bigSep Finset.univ fun k : CellIx => reached ER (kcell (c, k)) 0) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over receivers and offsets, read by sender: offset `r` goes from `c` to the device `r + 1` places on. -/
theorem deal (Φ : Dev nD → Fin 7 → sProp 𝕄) :
    (bigSep Finset.univ fun c => bigSep Finset.univ fun r => Φ c r) = bigSep Finset.univ fun c => bigSep Finset.univ fun r => Φ (far c r) r := by
  rw [bigSep_univ_comm, bigSep_univ_comm (fun c r => Φ (far c r) r)]
  exact bigSep_congr fun r _ => bigSep_univ_equiv (turn r) fun c => Φ c r

/-- Every token goes to the device that pays the duty. -/
theorem tokens_dealt : (bigSep Finset.univ fun c : Dev nD => (minted c : sProp 𝕄)) ⊢ bigSep Finset.univ fun c : Dev nD => tokens c := by
  have h : ∀ c : Dev nD, (minted c : sProp 𝕄) = iprop(bigSep Finset.univ (fun r : Fin 7 => dutyTok ER (barCell c) 0 r) ∗ dutyTok ER (copyCell c) 0 (0 : Fin 7)
      ∗ bigSep Finset.univ (fun r : Fin 7 => dutyTok ER (sendCell c r) 0 (0 : Fin 7)) ∗ bigSep Finset.univ fun r : Fin 7 => dutyTok ER (recvCell c r) 0 (0 : Fin 7)) := fun c => by
    unfold minted
    rw [bigSep_univ_sum, bigSep_univ_sum, bigSep_univ_sum, bigSep_univ_of_subsingleton (I := Unit) ()]
    rfl
  rw [bigSep_congr fun c _ => h c]
  unfold tokens
  rw [bigSep_sep', bigSep_sep', bigSep_sep', bigSep_sep', bigSep_sep', bigSep_sep', deal fun c r => dutyTok ER (barCell c) 0 r,
    deal fun c r => dutyTok ER (recvCell c r) 0 (0 : Fin 7)]

theorem regroup :
    (bigSep Finset.univ fun c : Dev nD => iprop((bigSep Finset.univ fun k => iprop(∃ κ : ℕ, cellInv ER (Rd m) κ (kcell (c, k))))
          ∗ ((bigSep Finset.univ fun k : CellIx => atPos ER (kcell (c, k)) 0 ∅ (0 : ℕ)) ∗ bigSep Finset.univ fun k : CellIx => reached ER (kcell (c, k)) 0) ∗ minted c) : sProp 𝕄)
      ⊢ bigSep Finset.univ (G' m) := by
  rw [bigSep_sep', bigSep_sep', bigSep_sep', ← bigSep_univ_prod (fun ck : Dev nD × CellIx => iprop(∃ κ : ℕ, cellInv ER (Rd m) κ (kcell ck))),
    ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (tokens_dealt (F := F)) $$ Htok
  iapply (bigSep_with_persistent (R := records m K)
    (Φ := fun c => iprop(bigSep Finset.univ (fun k : CellIx => atPos ER (kcell (c, k)) 0 ∅ (0 : ℕ)) ∗ tokens c))
    fun c _ => by
      unfold G'
      iintro ⟨HR, Hr⟩
      iexists K
      isplitl [HR]; · iexact HR
      iexact Hr)
  isplitr
  · unfold records; isplitl; · iexact HI
    iexact HR
  · rw [bigSep_sep']
    isplitl [Hat]; · iexact Hat
    iexact Htk

/-- All devices' semaphores at once become the exchange's records, positions and tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recvS_injective : Function.Injective recvS := by decide
theorem recv_eq_iff {a b : Dev nD} {r s : Fin 7} : Iff (recvCell a r = recvCell b s) (a = b ∧ r = s) :=
  ⟨fun h => ⟨congrArg (fun g : GSem nD τ sig => g.1.1) h, recvS_injective (SemLoc.dma.inj (congrArg Prod.snd h))⟩, fun h => by rw [h.1, h.2]⟩
theorem recv_ne_bar {a b : Dev nD} {r : Fin 7} : recvCell a r ≠ barCell b := fun h => by
  have := congrArg Prod.snd h
  exact absurd this (by simp)

/-- What device `d` owes device `c`'s handshake semaphore, -/
theorem owed_bar (d c : Dev nD) : O₀ d (barCell c) () = ∑ r : Fin 7, if far d r = c then 1 else 0 := by
  unfold O₀ owedSends owedUnits
  rw [show rest 0 = Finset.univ from rangeSet_univ, Pi.add_apply, Finsupp.add_apply, Finset.sum_apply, Finset.sum_apply, Finsupp.finset_sum_apply, Finsupp.finset_sum_apply,
    Finset.sum_eq_zero fun r _ => by rw [tallyAt_ne_cell recv_ne_bar.symm]; rfl, Nat.zero_add]
  refine Finset.sum_congr rfl fun r _ => ?_
  rw [tallyAt_apply]
  by_cases h : far d r = c
  · rw [if_pos h, if_pos ⟨bar_eq_iff.mpr h.symm, rfl⟩]
  · rw [if_neg h, if_neg fun h' => h (bar_eq_iff.mp h'.1).symm]
/-- and its arrival semaphore `s`: the device `s + 1` places back owes one transfer, the others none. -/
theorem owed_recv (d c : Dev nD) (s : Fin 7) : O₀ d (recvCell c s) () = if d = near c s then N else 0 := by
  unfold O₀ owedSends owedUnits
  rw [show rest 0 = Finset.univ from rangeSet_univ, Pi.add_apply, Finsupp.add_apply, Finset.sum_apply, Finset.sum_apply, Finsupp.finset_sum_apply, Finsupp.finset_sum_apply,
    Finset.sum_eq_zero (f := fun r : Fin 7 => (tallyAt (barCell (far d r)) () 1 : CellTallies nD τ sig Unit) (recvCell c s) ()) fun r _ => by
      rw [tallyAt_ne_cell recv_ne_bar]; rfl, Nat.add_zero]
  rw [Finset.sum_eq_single s (fun r _ hr => by rw [tallyAt_apply, if_neg fun h => hr (recv_eq_iff.mp h.1).2.symm]) (fun h => absurd (Finset.mem_univ s) h), tallyAt_apply]
  by_cases h : d = near c s
  · subst h; rw [far_near, if_pos ⟨rfl, rfl⟩, if_pos rfl]
  · rw [if_neg h, if_neg fun h' => h (by rw [(recv_eq_iff.mp h'.1).1, near_far])]

theorem seven_senders : ∀ c : Dev nD, (∑ d : Dev nD, ∑ r : Fin 7, if far d r = c then 1 else 0) = 7 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, seven_senders]

theorem launch_recv (c : Dev nD) (s : Fin 7) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (near c s) fun _ => N,
    if_pos (Finset.mem_univ _)]

/-- The launch's credit holds seven handshake units and seven arrivals. -/
theorem creds (c : Dev nD) : (Pipeline.launchCred O₀ c : sProp 𝕄) ⊢ credits c := by
  unfold Pipeline.launchCred credits
  rw [bigSep_univ_at _ (SemLoc.reg barS), launch_bar]
  refine sep_mono_right ?_
  rw [← bigSep_congr fun s _ => congrArg cred (launch_recv c s)]
  refine (bigSep_subset (t := (Finset.univ : Finset (Fin 7)).map ⟨fun s => SemLoc.dma (recvS s), fun a b h => recvS_injective (SemLoc.dma.inj h)⟩) fun x hx => ?_).trans
    (Entails.of_eq (bigSep_map (M := 𝕄) _))
  obtain ⟨s, -, rfl⟩ := Finset.mem_map.mp hx
  exact Finset.mem_erase.mpr ⟨by simp, Finset.mem_univ _⟩

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ Pipeline.ownSems0
  iintro ⟨⟨%f, Hr⟩, HS, HB⟩
  isplitl [HB]; · iexact HB
  isplitl [HS]; · iexact HS
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run leaves: every operand and the result at the contents the pipeline computes. -/
def Ends : PUnit × MemSt nD τ sig (Elt F) → Prop := fun r =>
  ∀ (c : Dev nD) (w : Fin cfg0.W), r.2.mem ((cfg0.win w).arr.view.loc (c : Thread nD τ)) = (dats m 0 c).arrAt w cfg0.N

/-- For any float values, from any memory with zero counters: every weakly fair execution of the eight devices' program
    terminates, with every array at the contents computed and every semaphore counter at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Result.lean ====
/-
The run's end, by the arrays' names: the operands as launched, device `c`'s result its rows of every device's product.
-/
module

public import proofs.«01_k».proof.Proof.Launch

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

variable (m : (ℓ : Loc nD τ sig) → Buf (Elt F) ℓ)

/-! ## The windows are the whole arrays -/

/-- Each operand as the kernel finds it is the array launched. -/
theorem xAt_eq (c : Dev nD) : xAt m c = m ((c : Thread nD τ).loc main_arg0) :=
  Memref.read_access_unit_zero (Elt F) main_arg0 (funext fun _ => Nat.zero_mul _) _ _
theorem wAt_eq (c : Dev nD) : wAt m c = m ((c : Thread nD τ).loc main_arg1) :=
  Memref.read_access_unit_zero (Elt F) main_arg1 (funext fun _ => Nat.zero_mul _) _ _
theorem sxAt_eq (c : Dev nD) : sxAt m c = m ((c : Thread nD τ).loc main_arg2) :=
  Memref.read_access_unit_zero (Elt F) main_arg2 (funext fun _ => Nat.zero_mul _) _ _
theorem swAt_eq (c : Dev nD) : swAt m c = m ((c : Thread nD τ).loc main_arg3) :=
  Memref.read_access_unit_zero (Elt F) main_arg3 (funext fun _ => Nat.zero_mul _) _ _

theorem flush_4 (t : Fin cfg0.N) : (cfg0.win (4 : Fin 5)).flush t = true := by rw [fin_N0 t]; rfl

/-- The result array at the end holds what the body leaves. -/
theorem arrAt_out (c : Dev nD) : (dats m 0 c).arrAt (4 : Fin 5) cfg0.N = outAt m c := by
  have hw : ((cfg0.win 4).blk t0_0).view.read (Elt F) ((dats m 0 c).arrAt 4 cfg0.N) = (dats m 0 c).flushed 4 t0_0 := by
    rw [show cfg0.N = t0_0.val + 1 from rfl, (dats m 0 c).arrAt_succ (4 : Fin 5) t0_0, flush_4, if_pos rfl]
    exact View.read_write_univ _ _
  exact (Memref.read_access_unit_zero (Elt F) main_v1 (funext fun _ => Nat.zero_mul _) _ _).symm.trans hw

/-! ## The run -/

/-- Device `c`'s operands as launched; -/
def Kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

variable {m}

/-- the run keeps them, -/
theorem Ends.kept {r : PUnit × MemSt nD τ sig (Elt F)} (h : Ends m r) (c : Dev nD) : Kept m r.2 c :=
  ⟨(h c 0).trans ((dats m 0 c).arrAt_in (0 : Fin 5) rfl _), (h c 1).trans ((dats m 0 c).arrAt_in (1 : Fin 5) rfl _),
    (h c 2).trans ((dats m 0 c).arrAt_in (2 : Fin 5) rfl _), (h c 3).trans ((dats m 0 c).arrAt_in (3 : Fin 5) rfl _)⟩

/-- and ends with device `c`'s result at column block `c` of every device's product. -/
theorem Ends.result {r : PUnit × MemSt nD τ sig (Elt F)} (h : Ends m r) (c : Dev nD) :
    r.2.mem ((c : Thread nD τ).loc main_v1) = outAt m c := (h c 4).trans (arrAt_out m c)

end Cert.Exchange

end
-- ==== Proof.Equation.lean ====
/-
Where the mask selects an element, the device's result there is the reference's: row `p` of device `b`'s block is row
`512 b + p` of the whole left operand, and column `k` of device `c`'s result is column `256 c + k` of the whole result.
-/
module

public import proofs.«01_k».proof.Proof.Elements
public import proofs.«01_k».proof.Proof.Result
public import Idealize.ShloMosaic.Lib.Layout

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.ShloMosaic.Layout (Tiles)

variable {m : (ℓ : Loc nD τ sig) → Buf (Elt Ideal) ℓ}
variable {x : IVec Cert.ReferenceIdeal.S4096x4096 8} {w : IVec S4096x2048 8} {sx sw : FVec Ideal S1 .f32}

/-- Row `p` of block `b`, among the 4096 rows. -/
def rowOf (b : Fin 8) (p : Fin 512) : Fin 4096 := ⟨512 * b.val + p.val, by omega⟩

/-- The launch's operands are the whole arrays' parts: `x` by row blocks, the others entire on every device. -/
structure Parts (m : (ℓ : Loc nD τ sig) → Buf (Elt Ideal) ℓ) (x : IVec Cert.ReferenceIdeal.S4096x4096 8) (w : IVec S4096x2048 8)
    (sx sw : FVec Ideal S1 .f32) : Prop where
  rows : ∀ c : Dev nD, m ((c : Thread nD τ).loc main_arg0) = Layout.block ⟨2, ![512, 4096]⟩ ⟨2, ![4096, 4096]⟩ 0 8 c x
  right : ∀ c : Dev nD, m ((c : Thread nD τ).loc main_arg1) = w
  scaleX : ∀ c : Dev nD, m ((c : Thread nD τ).loc main_arg2) = sx
  scaleW : ∀ c : Dev nD, m ((c : Thread nD τ).loc main_arg3) = sw

/-- Device `b`'s left operand at (p, k) is the whole's at (512 b + p, k). -/
theorem Parts.row (h : Parts m x w sx sw) (b : Dev nD) (p : Fin 512) (k : Fin 4096) : xAt m b (ix2 p k) = x (ix2 (rowOf b p) k) := by
  rw [xAt_eq, h.rows b, Layout.block_apply]
  congr 1
  funext a
  match a with
  | ⟨0, _⟩ => exact Fin.ext (show b.val * 512 + p.val = 512 * b.val + p.val by omega)
  | ⟨1, _⟩ => rfl

/-- An element of device `b`'s activated product, where its products' magnitudes total below 2²⁴, is the reference's. -/
theorem Parts.product (h : Parts m x w sx sw) (b : Dev nD) (p : Fin 512) (j : Fin 2048)
    (hm : Cert.On_within_exact_range.fn (F := Ideal) x w sx sw (ix2 (rowOf b p) j) = 1#1) :
    yAt m b (ix2 p j) = returned x w sx sw (ix2 (rowOf b p) j) := by
  have hx : (fun k : Fin 4096 => xAt m b (ix2 p k)) = fun k => x (ix2 (rowOf b p) k) := funext fun k => h.row b p k
  have hw : wAt m b = w := (wAt_eq m b).trans (h.right b)
  have hsx : sxAt m b = sx := (sxAt_eq m b).trans (h.scaleX b)
  have hsw : swAt m b = sw := (swAt_eq m b).trans (h.scaleW b)
  have hk : yAt m b (ix2 p j) = element (fun k : Fin 4096 => xAt m b (ix2 p k)) (fun k => wAt m b (ix2 k j))
      (sxAt m b (ix1 (0 : Fin 1))) (swAt m b (ix1 (0 : Fin 1))) :=
    element_kernel (xAt m b) (wAt m b) _ _ p j (by rw [hx, hw]; exact (mask_iff x w sx sw _ _).mp hm)
  rw [hk, hx, hw, hsx, hsw]
  exact (element_reference x w sx sw (rowOf b p) j).symm

/-- Where the mask selects, device `c`'s result is its block of the reference's. -/
theorem Parts.result (h : Parts m x w sx sw) (c : Dev nD) (i : S4096x256.Idx)
    (hm : (Layout.block ⟨2, ![4096, 256]⟩ ⟨2, ![4096, 2048]⟩ 1 8 c (Cert.On_within_exact_range.fn (F := Ideal) x w sx sw) : S4096x256.Idx → _) i = 1#1) :
    outAt m c i = (Layout.block ⟨2, ![4096, 256]⟩ ⟨2, ![4096, 2048]⟩ 1 8 c (returned x w sx sw) : S4096x256.Idx → _) i := by
  have hi : ∀ ht : Tiles ⟨2, ![4096, 256]⟩ ⟨2, ![4096, 2048]⟩ 1 8, ht.idx c i
      = ix2 (rowOf ⟨(i 0).val / 512, by have := idx2_lt0 i; omega⟩ ⟨(i 0).val % 512, Nat.mod_lt _ (by decide)⟩) (colOf c (i 1)) := by
    intro ht
    funext a
    match a with
    | ⟨0, _⟩ => exact Fin.ext (show (i 0).val = 512 * ((i 0).val / 512) + (i 0).val % 512 by omega)
    | ⟨1, _⟩ => exact Fin.ext (show c.val * 256 + (i 1).val = 256 * c.val + (i 1).val by omega)
  rw [Layout.block_apply, hi] at hm ⊢
  exact h.product _ _ _ hm

end Cert.Exchange

end
-- ==== Proof.lean ====
/-
The proof of `Cert.Claim`: the kernel's and the reference's frames, that nothing was rewritten between the kernel's two
readings, and that the kernel computes the reference's result wherever the mask selects. The modules under Proof/
supply the run (Launch.lean), its end by the arrays' names (Result.lean) and the values (Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_within_exact_range
public import proofs.«01_k».proof.Proof.Equation
public import Idealize.ShloMosaic.Adequacy
public import Idealize.ShloMosaic.Init

@[expose] public section

noncomputable section

namespace Cert.Proof

open Idealize.ShloMosaic Idealize.SL.Sem
open Cert.Exchange

/-! ## The frames -/

/-- At any float values the program runs to its end from any memory, its operands kept and every counter back at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c, Kept m r.2 c) ∧ r.2.sem = fun _ => 0) :=
  (θ_run Cert.KernelIdeal.defs _ _).mono (fun _ h => ⟨h.1.kept, h.2⟩) (run_main m ρ)

/-- The kernel as printed and its reading among the extended reals name one table of bodies at every label, -/
theorem same_bodies {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (_, _) => rfl

/-- so one table of bodies and pipelines. -/
theorem same_defs {F : FTy → Type} [FloatOps F] : Cert.Kernel.defs (F := F) = Cert.KernelIdeal.defs (F := F) :=
  congrArg (Pipeline.defs (Cert.Kernel.pcfgs (F := F))) same_bodies

/-- So the kernel as printed ends in the same way, -/
theorem frame_kernel : Cert.quiescent_Kernel := fun m ρ _ => by
  rw [same_defs]
  exact frame (F := Bits) m ρ

/-- and the same program read among the extended reals; -/
theorem frame_ideal : Cert.quiescent_KernelIdeal := fun m ρ _ => frame (F := Ideal) m ρ

/-- and so does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Nothing of the kernel was rewritten to read it among the extended reals. -/
theorem preserves : Cert.preserves_Kernel_KernelIdeal := trivial

/-- On the mask's elements, every device's result is its block of the reference's. -/
theorem algebraic : Cert.algebraic_KernelIdeal_ReferenceIdeal_on_within_exact_range := by
  intro m ρ m' ρ' _ hagree
  have hp : Parts m _ _ _ _ := ⟨fun c => (hagree c).1, fun c => (hagree c).2.1, fun c => (hagree c).2.2.1, fun c => (hagree c).2.2.2⟩
  refine ⟨returned (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3)), ?_, ?_⟩
  · exact (θ_run Cert.KernelIdeal.defs _ _).mono
      (fun _ h c => ⟨fun i hi => (congrFun (h.1.result c) i).trans (hp.result c i hi), h.1.kept c⟩) (run_main (F := Ideal) m ρ)
  · exact (θ_run Cert.ReferenceIdeal.defs _ _).mono (fun _ h => ⟨fun i _ => congrFun (h 0).1 i, (h 0).2⟩)
      (Cert.ReferenceIdeal.Value.run (F := Ideal) m' ρ')

/-- The certificate's claims, all five. -/
theorem claim : Cert.Claim :=
  ⟨Cert.Kernel.Gen.facts, Cert.KernelIdeal.Gen.facts, Cert.ReferenceIdeal.Gen.facts, Cert.On_within_exact_range.Gen.facts,
    frame_kernel, frame_ideal, frame_reference, preserves, algebraic⟩

end Cert.Proof

end
